-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_qk_finite [hPre_qk_finite : Cert.Pre_qk_finite.Facts] (m : (ℓ : Loc Cert.SwaIdeal.nD Cert.SwaIdeal.τ Cert.SwaIdeal.sig) → Buf (Elt Ideal) ℓ) : Prop :=
  ∀ c : Dev Cert.SwaIdeal.nD,
    (Cert.Pre_qk_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).1 = (fun _ => 1#1)
    ∧ (Cert.Pre_qk_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_qk_finite [hPre_qk_finite : Cert.Pre_qk_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_qk_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).1 = (fun _ => 1#1)
    ∧ (Cert.Pre_qk_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_qk_finite [hSwaIdeal : Cert.SwaIdeal.Facts] [hPre_qk_finite : Cert.Pre_qk_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_qk_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_qk_finite [hSwaRefIdeal : Cert.SwaRefIdeal.Facts] [hPre_qk_finite : Cert.Pre_qk_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_qk_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_qk_finite [hSwaIdeal : Cert.SwaIdeal.Facts] [hSwaRefIdeal : Cert.SwaRefIdeal.Facts] [hPre_qk_finite : Cert.Pre_qk_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_qk_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v101) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v42) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v0)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v0) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v1) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v1_0)) (v1 : (c : Dev Cert.InOddIdeal.nD) → Buf (Elt Ideal) ((c.tc : Thread Cert.InOddIdeal.nD Cert.InOddIdeal.τ).loc Cert.InOddIdeal.main_v1_1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v1_0) = v0 c
          ∧ r.2.mem ((c.tc : Thread Cert.InOddIdeal.nD Cert.InOddIdeal.τ).loc Cert.InOddIdeal.main_v1_1) = v1 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v16) = v0 c
          ∧ r.2.mem ((c.tc : Thread Cert.InOddRefIdeal.nD Cert.InOddRefIdeal.τ).loc Cert.InOddRefIdeal.main_v47) = v1 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def Claim : Prop :=
  ∃ (hSwa : Cert.Swa.Facts) (hSwaIdeal : Cert.SwaIdeal.Facts) (hSwaRefIdeal : Cert.SwaRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInEven : Cert.InEven.Facts) (hInEvenIdeal : Cert.InEvenIdeal.Facts) (hInEvenRefIdeal : Cert.InEvenRefIdeal.Facts) (hOut : Cert.Out.Facts) (hOutIdeal : Cert.OutIdeal.Facts) (hOutRefIdeal : Cert.OutRefIdeal.Facts) (hInOdd : Cert.InOdd.Facts) (hInOddIdeal : Cert.InOddIdeal.Facts) (hInOddRefIdeal : Cert.InOddRefIdeal.Facts) (hFinal : Cert.Final.Facts) (hFinalIdeal : Cert.FinalIdeal.Facts) (hFinalRefIdeal : Cert.FinalRefIdeal.Facts) (hPre_qk_finite : Cert.Pre_qk_finite.Facts),
    quiescent_Swa (hSwa := hSwa)
    ∧ quiescent_SwaIdeal (hSwaIdeal := hSwaIdeal)
    ∧ quiescent_SwaIdeal_pre_qk_finite (hSwaIdeal := hSwaIdeal) (hPre_qk_finite := hPre_qk_finite)
    ∧ quiescent_SwaRefIdeal (hSwaRefIdeal := hSwaRefIdeal)
    ∧ quiescent_SwaRefIdeal_pre_qk_finite (hSwaRefIdeal := hSwaRefIdeal) (hPre_qk_finite := hPre_qk_finite)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_Out (hOut := hOut)
    ∧ quiescent_OutIdeal (hOutIdeal := hOutIdeal)
    ∧ quiescent_OutRefIdeal (hOutRefIdeal := hOutRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_Final (hFinal := hFinal)
    ∧ quiescent_FinalIdeal (hFinalIdeal := hFinalIdeal)
    ∧ quiescent_FinalRefIdeal (hFinalRefIdeal := hFinalRefIdeal)
    ∧ preserves_Swa_SwaIdeal
    ∧ algebraic_SwaIdeal_SwaRefIdeal_pre_qk_finite (hSwaIdeal := hSwaIdeal) (hSwaRefIdeal := hSwaRefIdeal) (hPre_qk_finite := hPre_qk_finite)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InEven_InEvenIdeal
    ∧ algebraic_InEvenIdeal_InEvenRefIdeal (hInEvenIdeal := hInEvenIdeal) (hInEvenRefIdeal := hInEvenRefIdeal)
    ∧ preserves_Out_OutIdeal
    ∧ algebraic_OutIdeal_OutRefIdeal (hOutIdeal := hOutIdeal) (hOutRefIdeal := hOutRefIdeal)
    ∧ preserves_InOdd_InOddIdeal
    ∧ algebraic_InOddIdeal_InOddRefIdeal (hInOddIdeal := hInOddIdeal) (hInOddRefIdeal := hInOddRefIdeal)
    ∧ preserves_Final_FinalIdeal
    ∧ algebraic_FinalIdeal_FinalRefIdeal (hFinalIdeal := hFinalIdeal) (hFinalRefIdeal := hFinalRefIdeal)
-- ==== Pre_qk_finite.lean ====
abbrev S8320x10752 : Shape := ⟨2, ![8320, 10752]⟩
abbrev S32 : Shape := ⟨1, ![32]⟩
abbrev S8208x2304 : Shape := ⟨2, ![8208, 2304]⟩
abbrev S_ : Shape := ⟨0, ![]⟩

class Facts : Prop where
  slices_S8320x10752_S8208x2304_112_8192 : S8320x10752.Slices ![112, 8192] S8208x2304
  bcast_S_S8208x2304 : S_.BroadcastsInDim S8208x2304 (![] : Fin 0 → Fin S8208x2304.rank)
  bcast_S_S32 : S_.BroadcastsInDim S32 (![] : Fin 0 → Fin S32.rank)

variable [Facts]

def fn {F : FTy → Type} [FloatOps F] (main_arg0 : FVec F S8320x10752 .f32) (main_arg1 : FVec F S32 .f32) : IVec S8208x2304 1 × IVec S32 1 :=
  let main_v0 : FVec F S8208x2304 .f32 := (extractStridedSlice S8208x2304 ![112, 8192] · slices_S8320x10752_S8208x2304_112_8192) main_arg0
  let main_v1 : FVec F S8208x2304 .f32 := Host.absf main_v0
  let main_cst : FVec F S_ .f32 := constant S_ .f32 0x7F800000#32
  let main_v2 : FVec F S8208x2304 .f32 := broadcastInDim S8208x2304 ![] bcast_S_S8208x2304 main_cst
  let main_v3 : IVec S8208x2304 1 := cmpf .olt main_v1 main_v2
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  (main_v3, main_v6)
-- ==== Swa.lean ====
abbrev S8320x10752 : Shape := ⟨2, ![8320, 10752]⟩
abbrev S32 : Shape := ⟨1, ![32]⟩
abbrev S8320x2048 : Shape := ⟨2, ![8320, 2048]⟩
abbrev S128x2048 : Shape := ⟨2, ![128, 2048]⟩
abbrev S128x256 : Shape := ⟨2, ![128, 256]⟩
abbrev S1x128 : Shape := ⟨2, ![1, 128]⟩
abbrev S512x128 : Shape := ⟨2, ![512, 128]⟩
abbrev S512x16 : Shape := ⟨2, ![512, 16]⟩
abbrev S512x1 : Shape := ⟨2, ![512, 1]⟩
abbrev S128x128 : Shape := ⟨2, ![128, 128]⟩
abbrev S16x128 : Shape := ⟨2, ![16, 128]⟩
abbrev S1 : Shape := ⟨1, ![1]⟩
abbrev S512 : Shape := ⟨1, ![512]⟩

abbrev nBuf : Space → Nat
  | .hbm => 3
  | .vmem => 14
  | .smem => 1
  | _ => 0

abbrev bufTy : (tb : Table) → Fin (tcTables nBuf tb) → BufTy
  | .hbm, ⟨0, _⟩ => ⟨S8320x10752, .f32⟩
  | .hbm, ⟨1, _⟩ => ⟨S32, .f32⟩
  | .hbm, ⟨2, _⟩ => ⟨S8320x2048, .bf16⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x2048, .bf16⟩
  | .local _ .vmem, ⟨13, _⟩ => ⟨S128x2048, .bf16⟩
  | .local _ .smem, ⟨0, _⟩ => ⟨S32, .f32⟩
  | _, _ => ⟨S8320x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c40_i32 : BitVec 32 := 40#32
  let c0_i32_0 : BitVec 32 := 0#32
  ![v1.toNat, c40_i32.toNat]

def cc0_transform_4 (i : grid0.Coords) : Fin 2 → Nat :=
  let arg0 : BitVec 32 := BitVec.ofNat 32 (i 0).val
  let c0_i32 : BitVec 32 := 0#32
  let c40_i32 : BitVec 32 := 40#32
  let c0_i32_0 : BitVec 32 := 0#32
  ![c0_i32.toNat, c40_i32.toNat]

def cc0_transform_5 (i : grid0.Coords) : Fin 2 → Nat :=
  let arg0 : BitVec 32 := BitVec.ofNat 32 (i 0).val
  let c41_i32 : BitVec 32 := 41#32
  let c0_i32 : BitVec 32 := 0#32
  ![arg0.toNat, c41_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c41_i32 : BitVec 32 := 41#32
  let c0_i32_0 : BitVec 32 := 0#32
  ![v1.toNat, c41_i32.toNat]

def cc0_transform_7 (i : grid0.Coords) : Fin 2 → Nat :=
  let arg0 : BitVec 32 := BitVec.ofNat 32 (i 0).val
  let c0_i32 : BitVec 32 := 0#32
  let c41_i32 : BitVec 32 := 41#32
  let c0_i32_0 : BitVec 32 := 0#32
  ![c0_i32.toNat, c41_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SwaIdeal.lean ====
variable {F : FTy → Type} [FloatOps F] [Named F]
def κ : String → Option EReal := fun
  | "mask" => some ⊥
  | _ => none
-- ==== SwaRefIdeal.lean ====
abbrev S8320x10752 : Shape := ⟨2, ![8320, 10752]⟩
abbrev S32 : Shape := ⟨1, ![32]⟩
abbrev S8208x10752 : Shape := ⟨2, ![8208, 10752]⟩
abbrev S1x8208x10752 : Shape := ⟨3, ![1, 8208, 10752]⟩
abbrev S1x8208x2048 : Shape := ⟨3, ![1, 8208, 2048]⟩
abbrev S1x8208x256 : Shape := ⟨3, ![1, 8208, 256]⟩
abbrev S_ : Shape := ⟨0, ![]⟩
abbrev S1x8320x2048 : Shape := ⟨3, ![1, 8320, 2048]⟩
abbrev S1x8320x256 : Shape := ⟨3, ![1, 8320, 256]⟩
abbrev S1x65x128x4x8x64 : Shape := ⟨6, ![1, 65, 128, 4, 8, 64]⟩
abbrev S1x65x128x4x64 : Shape := ⟨5, ![1, 65, 128, 4, 64]⟩
abbrev S1x66x128x4x64 : Shape := ⟨5, ![1, 66, 128, 4, 64]⟩
abbrev S1x65x256x4x64 : Shape := ⟨5, ![1, 65, 256, 4, 64]⟩
abbrev S1x16x256 : Shape := ⟨3, ![1, 16, 256]⟩
abbrev S1x16x4x64 : Shape := ⟨4, ![1, 16, 4, 64]⟩
abbrev S1x4x16x65x128x8 : Shape := ⟨6, ![1, 4, 16, 65, 128, 8]⟩
abbrev S1x65x4x8x128x16 : Shape := ⟨6, ![1, 65, 4, 8, 128, 16]⟩
abbrev S1x65x4x256x128x8 : Shape := ⟨6, ![1, 65, 4, 256, 128, 8]⟩
abbrev S1x65x4x8x128x256 : Shape := ⟨6, ![1, 65, 4, 8, 128, 256]⟩
abbrev S65 : Shape := ⟨1, ![65]⟩
abbrev S65x1 : Shape := ⟨2, ![65, 1]⟩
abbrev S128 : Shape := ⟨1, ![128]⟩
abbrev S1x128 : Shape := ⟨2, ![1, 128]⟩
abbrev S65x128 : Shape := ⟨2, ![65, 128]⟩
abbrev S256 : Shape := ⟨1, ![256]⟩
abbrev S1x256 : Shape := ⟨2, ![1, 256]⟩
abbrev S65x256 : Shape := ⟨2, ![65, 256]⟩
abbrev S65x128x1 : Shape := ⟨3, ![65, 128, 1]⟩
abbrev S65x1x256 : Shape := ⟨3, ![65, 1, 256]⟩
abbrev S65x128x256 : Shape := ⟨3, ![65, 128, 256]⟩
abbrev S16 : Shape := ⟨1, ![16]⟩
abbrev S1x1x16 : Shape := ⟨3, ![1, 1, 16]⟩
abbrev S65x128x16 : Shape := ⟨3, ![65, 128, 16]⟩
abbrev S1x1x4x8x1x1 : Shape := ⟨6, ![1, 1, 4, 8, 1, 1]⟩
abbrev S1x65x4x8x128x1 : Shape := ⟨6, ![1, 65, 4, 8, 128, 1]⟩
abbrev S1x65x1x1x128x16 : Shape := ⟨6, ![1, 65, 1, 1, 128, 16]⟩
abbrev S1x65x1x1x128x256 : Shape := ⟨6, ![1, 65, 1, 1, 128, 256]⟩
abbrev S1x65x4x8x128x273 : Shape := ⟨6, ![1, 65, 4, 8, 128, 273]⟩
abbrev S1x65x4x8x128 : Shape := ⟨5, ![1, 65, 4, 8, 128]⟩
abbrev S1x4x64x65x8x128 : Shape := ⟨6, ![1, 4, 64, 65, 8, 128]⟩
abbrev S1x65x4x64x8x128 : Shape := ⟨6, ![1, 65, 4, 64, 8, 128]⟩
abbrev S8320x2048 : Shape := ⟨2, ![8320, 2048]⟩

abbrev nBuf : Space → Nat
  | .hbm => 134
  | .vmem => 0
  | .smem => 0
  | _ => 0

abbrev hbmTy0_0 (i : Nat) : BufTy := match i % 128 with
  | 0 => ⟨S8320x10752, .f32⟩
  | 1 => ⟨S32, .f32⟩
  | 2 => ⟨S8208x10752, .f32⟩
  | 3 => ⟨S1x8208x10752, .f32⟩
  | 4 => ⟨S1x8208x2048, .f32⟩
  | 5 => ⟨S1x8208x256, .f32⟩
  | 6 => ⟨S1x8208x256, .f32⟩
  | 7 => ⟨S_, .i32⟩
  | 8 => ⟨S_, .f32⟩
  | 9 => ⟨S1x8320x2048, .f32⟩
  | 10 => ⟨S_, .i32⟩
  | 11 => ⟨S_, .f32⟩
  | 12 => ⟨S1x8320x256, .f32⟩
  | 13 => ⟨S_, .i32⟩
  | 14 => ⟨S_, .f32⟩
  | 15 => ⟨S1x8320x256, .f32⟩
  | 16 => ⟨S1x65x128x4x8x64, .f32⟩
  | 17 => ⟨S1x65x128x4x64, .f32⟩
  | 18 => ⟨S1x65x128x4x64, .f32⟩
  | 19 => ⟨S_, .i32⟩
  | 20 => ⟨S_, .f32⟩
  | 21 => ⟨S1x66x128x4x64, .f32⟩
  | 22 => ⟨S1x65x128x4x64, .f32⟩
  | 23 => ⟨S1x65x256x4x64, .f32⟩
  | 24 => ⟨S_, .i32⟩
  | 25 => ⟨S_, .f32⟩
  | 26 => ⟨S1x66x128x4x64, .f32⟩
  | 27 => ⟨S1x65x128x4x64, .f32⟩
  | 28 => ⟨S1x65x256x4x64, .f32⟩
  | 29 => ⟨S1x16x256, .f32⟩
  | 30 => ⟨S1x16x4x64, .f32⟩
  | 31 => ⟨S1x16x256, .f32⟩
  | 32 => ⟨S1x16x4x64, .f32⟩
  | 33 => ⟨S1x4x16x65x128x8, .f32⟩
  | 34 => ⟨S1x65x4x8x128x16, .f32⟩
  | 35 => ⟨S_, .f32⟩
  | 36 => ⟨S1x65x4x8x128x16, .f32⟩
  | 37 => ⟨S1x65x4x8x128x16, .f32⟩
  | 38 => ⟨S1x65x4x256x128x8, .f32⟩
  | 39 => ⟨S1x65x4x8x128x256, .f32⟩
  | 40 => ⟨S_, .f32⟩
  | 41 => ⟨S1x65x4x8x128x256, .f32⟩
  | 42 => ⟨S1x65x4x8x128x256, .f32⟩
  | 43 => ⟨S65, .i32⟩
  | 44 => ⟨S65x1, .i32⟩
  | 45 => ⟨S_, .i32⟩
  | 46 => ⟨S65x1, .i32⟩
  | 47 => ⟨S65x1, .i32⟩
  | 48 => ⟨S128, .i32⟩
  | 49 => ⟨S1x128, .i32⟩
  | 50 => ⟨S65x128, .i32⟩
  | 51 => ⟨S65x128, .i32⟩
  | 52 => ⟨S65x128, .i32⟩
  | 53 => ⟨S65, .i32⟩
  | 54 => ⟨S65x1, .i32⟩
  | 55 => ⟨S_, .i32⟩
  | 56 => ⟨S65x1, .i32⟩
  | 57 => ⟨S65x1, .i32⟩
  | 58 => ⟨S_, .i32⟩
  | 59 => ⟨S65x1, .i32⟩
  | 60 => ⟨S65x1, .i32⟩
  | 61 => ⟨S256, .i32⟩
  | 62 => ⟨S1x256, .i32⟩
  | 63 => ⟨S65x256, .i32⟩
  | 64 => ⟨S65x256, .i32⟩
  | 65 => ⟨S65x256, .i32⟩
  | 66 => ⟨S65x128x1, .i32⟩
  | 67 => ⟨S65x1x256, .i32⟩
  | 68 => ⟨S65x128x256, .i32⟩
  | 69 => ⟨S65x128x256, .i32⟩
  | 70 => ⟨S65x128x256, .i1⟩
  | 71 => ⟨S65x128x256, .i32⟩
  | 72 => ⟨S65x128x256, .i32⟩
  | 73 => ⟨S65x128x256, .i32⟩
  | 74 => ⟨S_, .i32⟩
  | 75 => ⟨S65x128x256, .i32⟩
  | 76 => ⟨S65x128x256, .i1⟩
  | 77 => ⟨S65x128x256, .i1⟩
  | 78 => ⟨S_, .i32⟩
  | 79 => ⟨S65x1x256, .i32⟩
  | 80 => ⟨S65x1x256, .i1⟩
  | 81 => ⟨S65x128x256, .i1⟩
  | 82 => ⟨S65x128x256, .i1⟩
  | 83 => ⟨S_, .i32⟩
  | 84 => ⟨S65x128x1, .i32⟩
  | 85 => ⟨S65x128x1, .i1⟩
  | 86 => ⟨S_, .i32⟩
  | 87 => ⟨S65x128x1, .i32⟩
  | 88 => ⟨S65x128x1, .i32⟩
  | 89 => ⟨S16, .i32⟩
  | 90 => ⟨S1x1x16, .i32⟩
  | 91 => ⟨S65x128x16, .i32⟩
  | 92 => ⟨S65x128x16, .i32⟩
  | 93 => ⟨S65x128x16, .i1⟩
  | 94 => ⟨S65x128x16, .i1⟩
  | 95 => ⟨S65x128x16, .i1⟩
  | 96 => ⟨S1x1x4x8x1x1, .f32⟩
  | 97 => ⟨S1x65x4x8x128x1, .f32⟩
  | 98 => ⟨S1x65x1x1x128x16, .i1⟩
  | 99 => ⟨S_, .f32⟩
  | 100 => ⟨S_, .f32⟩
  | 101 => ⟨S1x65x4x8x128x16, .i1⟩
  | 102 => ⟨S1x65x4x8x128x16, .f32⟩
  | 103 => ⟨S1x65x4x8x128x16, .f32⟩
  | 104 => ⟨S1x65x1x1x128x256, .i1⟩
  | 105 => ⟨S_, .f32⟩
  | 106 => ⟨S_, .f32⟩
  | 107 => ⟨S1x65x4x8x128x256, .i1⟩
  | 108 => ⟨S1x65x4x8x128x256, .f32⟩
  | 109 => ⟨S1x65x4x8x128x256, .f32⟩
  | 110 => ⟨S1x65x4x8x128x273, .f32⟩
  | 111 => ⟨S_, .f32⟩
  | 112 => ⟨S1x65x4x8x128, .f32⟩
  | 113 => ⟨S_, .f32⟩
  | 114 => ⟨S1x65x4x8x128, .f32⟩
  | 115 => ⟨S1x65x4x8x128, .f32⟩
  | 116 => ⟨S1x65x4x8x128x1, .f32⟩
  | 117 => ⟨S1x65x4x8x128x273, .f32⟩
  | 118 => ⟨S1x65x4x8x128x273, .f32⟩
  | 119 => ⟨S1x65x4x8x128x273, .f32⟩
  | 120 => ⟨S_, .f32⟩
  | 121 => ⟨S1x65x4x8x128, .f32⟩
  | 122 => ⟨S1x65x4x8x128x1, .f32⟩
  | 123 => ⟨S1x65x4x8x128x273, .f32⟩
  | 124 => ⟨S1x65x4x8x128x273, .f32⟩
  | 125 => ⟨S1x65x4x8x128x16, .f32⟩
  | 126 => ⟨S1x4x64x65x8x128, .f32⟩
  | 127 => ⟨S1x65x128x4x8x64, .f32⟩
  | _ => ⟨S8320x10752, .f32⟩

abbrev hbmTy0_1 (i : Nat) : BufTy := match i % 128 with
  | 0 => ⟨S1x65x4x8x128x256, .f32⟩
  | 1 => ⟨S1x65x4x64x8x128, .f32⟩
  | 2 => ⟨S1x65x128x4x8x64, .f32⟩
  | 3 => ⟨S1x65x128x4x8x64, .f32⟩
  | 4 => ⟨S8320x2048, .f32⟩
  | 5 => ⟨S8320x2048, .bf16⟩
  | _ => ⟨S8320x10752, .f32⟩

abbrev hbmTy (i : Nat) : BufTy := match i / 128 with
  | 0 => hbmTy0_0 i
  | 1 => hbmTy0_1 i
  | _ => ⟨S8320x10752, .f32⟩

abbrev bufTy : (tb : Table) → Fin (tcTables nBuf tb) → BufTy
  | .hbm, ⟨i, _⟩ => hbmTy i
  | _, _ => ⟨S8320x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call3_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call4_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_10 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_12 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩

abbrev nD : Nat := 1
abbrev τ : Topo := Topo.v7x

variable {F : FTy → Type} [FloatOps F]
-- ==== FfnUp.lean ====
abbrev S8320x4096 : Shape := ⟨2, ![8320, 4096]⟩
abbrev S4096x22016 : Shape := ⟨2, ![4096, 22016]⟩
abbrev S3x11008 : Shape := ⟨2, ![3, 11008]⟩
abbrev S11008 : Shape := ⟨1, ![11008]⟩
abbrev S1x11008 : Shape := ⟨2, ![1, 11008]⟩
abbrev S8320x11008 : Shape := ⟨2, ![8320, 11008]⟩
abbrev S1040x4096 : Shape := ⟨2, ![1040, 4096]⟩
abbrev S4096x256 : Shape := ⟨2, ![4096, 256]⟩
abbrev S3x256 : Shape := ⟨2, ![3, 256]⟩
abbrev S1x256 : Shape := ⟨2, ![1, 256]⟩
abbrev S1040x256 : Shape := ⟨2, ![1040, 256]⟩
abbrev S1048x256 : Shape := ⟨2, ![1048, 256]⟩
abbrev S8x256 : Shape := ⟨2, ![8, 256]⟩

abbrev nBuf : Space → Nat
  | .hbm => 6
  | .vmem => 15
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .f32⟩
  | .hbm, ⟨2, _⟩ => ⟨S3x11008, .f32⟩
  | .hbm, ⟨3, _⟩ => ⟨S11008, .f32⟩
  | .hbm, ⟨4, _⟩ => ⟨S1x11008, .f32⟩
  | .hbm, ⟨5, _⟩ => ⟨S8320x11008, .bf16⟩
  | .local _ .vmem, ⟨0, _⟩ => ⟨S1040x4096, .bf16⟩
  | .local _ .vmem, ⟨1, _⟩ => ⟨S1040x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1040x256, .bf16⟩
  | .local _ .vmem, ⟨11, _⟩ => ⟨S1040x256, .bf16⟩
  | .local _ .vmem, ⟨12, _⟩ => ⟨S4096x256, .bf16⟩
  | .local _ .vmem, ⟨13, _⟩ => ⟨S4096x256, .bf16⟩
  | .local _ .vmem, ⟨14, _⟩ => ⟨S1048x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1040x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8320x4096 : Shape := ⟨2, ![8320, 4096]⟩
abbrev S4096x22016 : Shape := ⟨2, ![4096, 22016]⟩
abbrev S3x11008 : Shape := ⟨2, ![3, 11008]⟩
abbrev S11008 : Shape := ⟨1, ![11008]⟩
abbrev S8320x22016 : Shape := ⟨2, ![8320, 22016]⟩
abbrev S8320x11008 : Shape := ⟨2, ![8320, 11008]⟩
abbrev S_ : Shape := ⟨0, ![]⟩
abbrev S8322x11008 : Shape := ⟨2, ![8322, 11008]⟩
abbrev S1x11008 : Shape := ⟨2, ![1, 11008]⟩

abbrev nBuf : Space → Nat
  | .hbm => 53
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .f32⟩
  | .hbm, ⟨2, _⟩ => ⟨S3x11008, .f32⟩
  | .hbm, ⟨3, _⟩ => ⟨S11008, .f32⟩
  | .hbm, ⟨4, _⟩ => ⟨S8320x4096, .f32⟩
  | .hbm, ⟨5, _⟩ => ⟨S8320x22016, .f32⟩
  | .hbm, ⟨6, _⟩ => ⟨S8320x11008, .f32⟩
  | .hbm, ⟨7, _⟩ => ⟨S8320x11008, .f32⟩
  | .hbm, ⟨8, _⟩ => ⟨S_, .i32⟩
  | .hbm, ⟨9, _⟩ => ⟨S_, .f32⟩
  | .hbm, ⟨10, _⟩ => ⟨S8322x11008, .f32⟩
  | .hbm, ⟨11, _⟩ => ⟨S8320x11008, .f32⟩
  | .hbm, ⟨12, _⟩ => ⟨S1x11008, .f32⟩
  | .hbm, ⟨13, _⟩ => ⟨S11008, .f32⟩
  | .hbm, ⟨14, _⟩ => ⟨S1x11008, .f32⟩
  | .hbm, ⟨15, _⟩ => ⟨S8320x11008, .f32⟩
  | .hbm, ⟨16, _⟩ => ⟨S8320x11008, .f32⟩
  | .hbm, ⟨17, _⟩ => ⟨S1x11008, .f32⟩
  | .hbm, ⟨18, _⟩ => ⟨S8320x11008, .f32⟩
  | .hbm, ⟨19, _⟩ => ⟨S8320x11008, .f32⟩
  | .hbm, ⟨20, _⟩ => ⟨S8320x11008, .f32⟩
  | .hbm, ⟨21, _⟩ => ⟨S1x11008, .f32⟩
  | .hbm, ⟨22, _⟩ => ⟨S11008, .f32⟩
  | .hbm, ⟨23, _⟩ => ⟨S1x11008, .f32⟩
  | .hbm, ⟨24, _⟩ => ⟨S8320x11008, .f32⟩
  | .hbm, ⟨25, _⟩ => ⟨S8320x11008, .f32⟩
  | .hbm, ⟨26, _⟩ => ⟨S8320x11008, .f32⟩
  | .hbm, ⟨27, _⟩ => ⟨S8320x11008, .f32⟩
  | .hbm, ⟨28, _⟩ => ⟨S1x11008, .f32⟩
  | .hbm, ⟨29, _⟩ => ⟨S11008, .f32⟩
  | .hbm, ⟨30, _⟩ => ⟨S1x11008, .f32⟩
  | .hbm, ⟨31, _⟩ => ⟨S8320x11008, .f32⟩
  | .hbm, ⟨32, _⟩ => ⟨S8320x11008, .f32⟩
  | .hbm, ⟨33, _⟩ => ⟨S8320x11008, .f32⟩
  | .hbm, ⟨34, _⟩ => ⟨S8320x11008, .f32⟩
  | .hbm, ⟨35, _⟩ => ⟨S8320x11008, .f32⟩
  | .hbm, ⟨36, _⟩ => ⟨S_, .f32⟩
  | .hbm, ⟨37, _⟩ => ⟨S8320x11008, .f32⟩
  | .hbm, ⟨38, _⟩ => ⟨S8320x11008, .f32⟩
  | .hbm, ⟨39, _⟩ => ⟨S8320x11008, .f32⟩
  | .hbm, ⟨40, _⟩ => ⟨S_, .f32⟩
  | .hbm, ⟨41, _⟩ => ⟨S8320x11008, .f32⟩
  | .hbm, ⟨42, _⟩ => ⟨S8320x11008, .f32⟩
  | .hbm, ⟨43, _⟩ => ⟨S8320x11008, .f32⟩
  | .hbm, ⟨44, _⟩ => ⟨S_, .f32⟩
  | .hbm, ⟨45, _⟩ => ⟨S8320x11008, .f32⟩
  | .hbm, ⟨46, _⟩ => ⟨S8320x11008, .f32⟩
  | .hbm, ⟨47, _⟩ => ⟨S_, .f32⟩
  | .hbm, ⟨48, _⟩ => ⟨S8320x11008, .f32⟩
  | .hbm, ⟨49, _⟩ => ⟨S8320x11008, .f32⟩
  | .hbm, ⟨50, _⟩ => ⟨S8320x11008, .f32⟩
  | .hbm, ⟨51, _⟩ => ⟨S8320x11008, .f32⟩
  | .hbm, ⟨52, _⟩ => ⟨S8320x11008, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== FfnDown.lean ====
abbrev S8320x11008 : Shape := ⟨2, ![8320, 11008]⟩
abbrev S11008x4096 : Shape := ⟨2, ![11008, 4096]⟩
abbrev S8320x4096 : Shape := ⟨2, ![8320, 4096]⟩
abbrev S520x11008 : Shape := ⟨2, ![520, 11008]⟩
abbrev S11008x512 : Shape := ⟨2, ![11008, 512]⟩
abbrev S520x512 : Shape := ⟨2, ![520, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .f32⟩
  | .hbm, ⟨2, _⟩ => ⟨S11008x4096, .bf16⟩
  | .hbm, ⟨3, _⟩ => ⟨S8320x4096, .f32⟩
  | .local _ .vmem, ⟨0, _⟩ => ⟨S520x11008, .bf16⟩
  | .local _ .vmem, ⟨1, _⟩ => ⟨S520x11008, .bf16⟩
  | .local _ .vmem, ⟨2, _⟩ => ⟨S11008x512, .bf16⟩
  | .local _ .vmem, ⟨3, _⟩ => ⟨S11008x512, .bf16⟩
  | .local _ .vmem, ⟨4, _⟩ => ⟨S520x512, .f32⟩
  | .local _ .vmem, ⟨5, _⟩ => ⟨S520x512, .f32⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S520x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S520x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S8320x11008 : Shape := ⟨2, ![8320, 11008]⟩
abbrev S11008x4096 : Shape := ⟨2, ![11008, 4096]⟩
abbrev S8320x4096 : Shape := ⟨2, ![8320, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .f32⟩
  | .hbm, ⟨2, _⟩ => ⟨S8320x11008, .f32⟩
  | .hbm, ⟨3, _⟩ => ⟨S8320x4096, .f32⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InEven.lean ====
abbrev S8320x4096 : Shape := ⟨2, ![8320, 4096]⟩
abbrev S4096x10752 : Shape := ⟨2, ![4096, 10752]⟩
abbrev S8320x10752 : Shape := ⟨2, ![8320, 10752]⟩
abbrev S1040x4096 : Shape := ⟨2, ![1040, 4096]⟩
abbrev S4096x512 : Shape := ⟨2, ![4096, 512]⟩
abbrev S1040x512 : Shape := ⟨2, ![1040, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x10752, .f32⟩
  | .hbm, ⟨2, _⟩ => ⟨S8320x10752, .f32⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![21, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenRefIdeal.lean ====
abbrev S8320x4096 : Shape := ⟨2, ![8320, 4096]⟩
abbrev S4096x10752 : Shape := ⟨2, ![4096, 10752]⟩
abbrev S8320x10752 : Shape := ⟨2, ![8320, 10752]⟩

abbrev nBuf : Space → Nat
  | .hbm => 4
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x10752, .f32⟩
  | .hbm, ⟨2, _⟩ => ⟨S8320x4096, .f32⟩
  | .hbm, ⟨3, _⟩ => ⟨S8320x10752, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Out.lean ====
abbrev S8320x4096 : Shape := ⟨2, ![8320, 4096]⟩
abbrev S4096x4096 : Shape := ⟨2, ![4096, 4096]⟩
abbrev S1040x4096 : Shape := ⟨2, ![1040, 4096]⟩
abbrev S4096x512 : Shape := ⟨2, ![4096, 512]⟩
abbrev S1040x512 : Shape := ⟨2, ![1040, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S8320x4096 : Shape := ⟨2, ![8320, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InOdd.lean ====
abbrev S8320x4096 : Shape := ⟨2, ![8320, 4096]⟩
abbrev S4096x8192 : Shape := ⟨2, ![4096, 8192]⟩
abbrev S4x4096 : Shape := ⟨2, ![4, 4096]⟩
abbrev S4096 : Shape := ⟨1, ![4096]⟩
abbrev S1x4096 : Shape := ⟨2, ![1, 4096]⟩
abbrev S1040x4096 : Shape := ⟨2, ![1040, 4096]⟩
abbrev S4096x256 : Shape := ⟨2, ![4096, 256]⟩
abbrev S4x256 : Shape := ⟨2, ![4, 256]⟩
abbrev S1x256 : Shape := ⟨2, ![1, 256]⟩
abbrev S1040x256 : Shape := ⟨2, ![1040, 256]⟩
abbrev S1048x256 : Shape := ⟨2, ![1048, 256]⟩
abbrev S8x256 : Shape := ⟨2, ![8, 256]⟩

abbrev nBuf : Space → Nat
  | .hbm => 7
  | .vmem => 17
  | .smem => 0
  | _ => 0

abbrev bufTy : (tb : Table) → Fin (tcTables nBuf tb) → BufTy
  | .hbm, ⟨0, _⟩ => ⟨S8320x4096, .bf16⟩
  | .hbm, ⟨1, _⟩ => ⟨S4096x8192, .f32⟩
  | .hbm, ⟨2, _⟩ => ⟨S4x4096, .f32⟩
  | .hbm, ⟨3, _⟩ => ⟨S4096, .f32⟩
  | .hbm, ⟨4, _⟩ => ⟨S1x4096, .f32⟩
  | .hbm, ⟨5, _⟩ => ⟨S8320x4096, .f32⟩
  | .hbm, ⟨6, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4x256, .f32⟩
  | .local _ .vmem, ⟨7, _⟩ => ⟨S4x256, .f32⟩
  | .local _ .vmem, ⟨8, _⟩ => ⟨S1x256, .f32⟩
  | .local _ .vmem, ⟨9, _⟩ => ⟨S1x256, .f32⟩
  | .local _ .vmem, ⟨10, _⟩ => ⟨S1040x256, .f32⟩
  | .local _ .vmem, ⟨11, _⟩ => ⟨S1040x256, .f32⟩
  | .local _ .vmem, ⟨12, _⟩ => ⟨S1040x256, .f32⟩
  | .local _ .vmem, ⟨13, _⟩ => ⟨S1040x256, .f32⟩
  | .local _ .vmem, ⟨14, _⟩ => ⟨S4096x256, .bf16⟩
  | .local _ .vmem, ⟨15, _⟩ => ⟨S4096x256, .bf16⟩
  | .local _ .vmem, ⟨16, _⟩ => ⟨S1048x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1040x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1040x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InOddRefIdeal.lean ====
abbrev S8320x4096 : Shape := ⟨2, ![8320, 4096]⟩
abbrev S4096x8192 : Shape := ⟨2, ![4096, 8192]⟩
abbrev S4x4096 : Shape := ⟨2, ![4, 4096]⟩
abbrev S4096 : Shape := ⟨1, ![4096]⟩
abbrev S8320x8192 : Shape := ⟨2, ![8320, 8192]⟩
abbrev S_ : Shape := ⟨0, ![]⟩
abbrev S8323x4096 : Shape := ⟨2, ![8323, 4096]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x8192, .f32⟩
  | .hbm, ⟨2, _⟩ => ⟨S4x4096, .f32⟩
  | .hbm, ⟨3, _⟩ => ⟨S4096, .f32⟩
  | .hbm, ⟨4, _⟩ => ⟨S8320x4096, .f32⟩
  | .hbm, ⟨5, _⟩ => ⟨S8320x8192, .f32⟩
  | .hbm, ⟨6, _⟩ => ⟨S8320x4096, .f32⟩
  | .hbm, ⟨7, _⟩ => ⟨S8320x4096, .f32⟩
  | .hbm, ⟨8, _⟩ => ⟨S8320x4096, .f32⟩
  | .hbm, ⟨9, _⟩ => ⟨S8320x4096, .f32⟩
  | .hbm, ⟨10, _⟩ => ⟨S_, .f32⟩
  | .hbm, ⟨11, _⟩ => ⟨S8320x4096, .f32⟩
  | .hbm, ⟨12, _⟩ => ⟨S8320x4096, .f32⟩
  | .hbm, ⟨13, _⟩ => ⟨S8320x4096, .f32⟩
  | .hbm, ⟨14, _⟩ => ⟨S_, .f32⟩
  | .hbm, ⟨15, _⟩ => ⟨S8320x4096, .f32⟩
  | .hbm, ⟨16, _⟩ => ⟨S8320x4096, .f32⟩
  | .hbm, ⟨17, _⟩ => ⟨S8320x4096, .f32⟩
  | .hbm, ⟨18, _⟩ => ⟨S_, .f32⟩
  | .hbm, ⟨19, _⟩ => ⟨S8320x4096, .f32⟩
  | .hbm, ⟨20, _⟩ => ⟨S8320x4096, .f32⟩
  | .hbm, ⟨21, _⟩ => ⟨S_, .f32⟩
  | .hbm, ⟨22, _⟩ => ⟨S8320x4096, .f32⟩
  | .hbm, ⟨23, _⟩ => ⟨S8320x4096, .f32⟩
  | .hbm, ⟨24, _⟩ => ⟨S8320x4096, .f32⟩
  | .hbm, ⟨25, _⟩ => ⟨S_, .i32⟩
  | .hbm, ⟨26, _⟩ => ⟨S_, .f32⟩
  | .hbm, ⟨27, _⟩ => ⟨S8323x4096, .f32⟩
  | .hbm, ⟨28, _⟩ => ⟨S8320x4096, .f32⟩
  | .hbm, ⟨29, _⟩ => ⟨S1x4096, .f32⟩
  | .hbm, ⟨30, _⟩ => ⟨S4096, .f32⟩
  | .hbm, ⟨31, _⟩ => ⟨S1x4096, .f32⟩
  | .hbm, ⟨32, _⟩ => ⟨S8320x4096, .f32⟩
  | .hbm, ⟨33, _⟩ => ⟨S8320x4096, .f32⟩
  | .hbm, ⟨34, _⟩ => ⟨S1x4096, .f32⟩
  | .hbm, ⟨35, _⟩ => ⟨S8320x4096, .f32⟩
  | .hbm, ⟨36, _⟩ => ⟨S8320x4096, .f32⟩
  | .hbm, ⟨37, _⟩ => ⟨S8320x4096, .f32⟩
  | .hbm, ⟨38, _⟩ => ⟨S1x4096, .f32⟩
  | .hbm, ⟨39, _⟩ => ⟨S4096, .f32⟩
  | .hbm, ⟨40, _⟩ => ⟨S1x4096, .f32⟩
  | .hbm, ⟨41, _⟩ => ⟨S8320x4096, .f32⟩
  | .hbm, ⟨42, _⟩ => ⟨S8320x4096, .f32⟩
  | .hbm, ⟨43, _⟩ => ⟨S8320x4096, .f32⟩
  | .hbm, ⟨44, _⟩ => ⟨S8320x4096, .f32⟩
  | .hbm, ⟨45, _⟩ => ⟨S1x4096, .f32⟩
  | .hbm, ⟨46, _⟩ => ⟨S4096, .f32⟩
  | .hbm, ⟨47, _⟩ => ⟨S1x4096, .f32⟩
  | .hbm, ⟨48, _⟩ => ⟨S8320x4096, .f32⟩
  | .hbm, ⟨49, _⟩ => ⟨S8320x4096, .f32⟩
  | .hbm, ⟨50, _⟩ => ⟨S8320x4096, .f32⟩
  | .hbm, ⟨51, _⟩ => ⟨S8320x4096, .f32⟩
  | .hbm, ⟨52, _⟩ => ⟨S1x4096, .f32⟩
  | .hbm, ⟨53, _⟩ => ⟨S4096, .f32⟩
  | .hbm, ⟨54, _⟩ => ⟨S1x4096, .f32⟩
  | .hbm, ⟨55, _⟩ => ⟨S8320x4096, .f32⟩
  | .hbm, ⟨56, _⟩ => ⟨S8320x4096, .f32⟩
  | .hbm, ⟨57, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Final.lean ====
abbrev S8320x4096 : Shape := ⟨2, ![8320, 4096]⟩
abbrev S4096 : Shape := ⟨1, ![4096]⟩
abbrev S1x4096 : Shape := ⟨2, ![1, 4096]⟩
abbrev S8192x4096 : Shape := ⟨2, ![8192, 4096]⟩
abbrev S128x4096 : Shape := ⟨2, ![128, 4096]⟩
abbrev S128 : Shape := ⟨1, ![128]⟩
abbrev S128x1 : Shape := ⟨2, ![128, 1]⟩

abbrev nBuf : Space → Nat
  | .hbm => 5
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x4096, .f32⟩
  | .hbm, ⟨2, _⟩ => ⟨S4096, .f32⟩
  | .hbm, ⟨3, _⟩ => ⟨S8320x4096, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x4096, .f32⟩
  | .hbm, ⟨15, _⟩ => ⟨S8320x4096, .f32⟩
  | .hbm, ⟨16, _⟩ => ⟨S1x4096, .f32⟩
  | .hbm, ⟨17, _⟩ => ⟨S8320x4096, .f32⟩
  | .hbm, ⟨18, _⟩ => ⟨S8320x4096, .f32⟩
  | .hbm, ⟨19, _⟩ => ⟨S8320x4096, .f32⟩
  | .hbm, ⟨20, _⟩ => ⟨S8192x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.SwaClaims.lean ====
module

public import proofs.«01_k».proof.Defs
public import proofs.«01_k».proof.Proof.Gen.Swa.Frame
public import proofs.«01_k».proof.Proof.Gen.SwaIdeal.Frame
public import proofs.«01_k».proof.Proof.Gen.SwaRefIdeal.Run
public import Idealize.ShloMosaic.Lib.Claim
public import Idealize.ShloMosaic.Lib.Quiescent

/-! The claims about the attention but its value. -/

@[expose] public section

set_option maxRecDepth 16384

noncomputable section

open Idealize.ShloMosaic Idealize.SL.Sem

namespace Cert.Proof.Swa

/-- The kernel as printed runs and leaves its arguments. -/
theorem frame : Cert.quiescent_Swa := fun m ρ _ => Cert.Swa.Gen.frame m ρ

/-- The idealized kernel runs and leaves its arguments. -/
theorem frame_ideal : Cert.quiescent_SwaIdeal := fun m ρ _ => Cert.SwaIdeal.Gen.frame m ρ

/-- The reference runs and leaves its arguments. -/
theorem frame_ref : Cert.quiescent_SwaRefIdeal := fun m ρ _ =>
  (θ_run _ _ _).mono (fun r h => ⟨fun c => (h c).2, sem_eq_zero_of_no_sems (by decide) _⟩) (Cert.SwaRefIdeal.Value.run m ρ)

/-- The kernel's idealization names one constant, minus infinity. -/
theorem preserves : Cert.preserves_Swa_SwaIdeal :=
  IdealRules.named_const.statement Cert.SwaIdeal.κ "mask" .f32 0xF149F2CA#32 ⊥ rfl

end Cert.Proof.Swa

end
-- ==== Proof.SwaTile.lean ====
module

public import proofs.«01_k».proof.Proof.Gen.SwaIdeal.Frame
public import Idealize.ShloMosaic.Lib.Pipeline.ValueKit

/-! The attention kernel's tiles, written once: one group of four pairs of heads, for either half of the lanes. -/

@[expose] public section

set_option maxRecDepth 16384

noncomputable section

open Idealize.ShloMosaic Idealize.ShloMosaic.TcCoe Idealize.SL.Sem
open Idealize.ShloMosaic.Pipeline (Dat)

namespace Cert.SwaIdeal.Att

open Cert.SwaIdeal Cert.SwaIdeal.Gen

/-- A head's half of a key or value tile, the other half 0: `nat` says that the head's own lanes are the low ones, `par` that
the half is put in the high lanes. -/
def half (nat par : Bool) (x : Vec Ideal S128x128 .f32) : FVec Ideal S128x128 .bf16 :=
  truncf .bf16 (cond par
    (select (broadcastTo S128x128 (shapeCast S1x128 k0_pay4 shapeCasts_S1x128_S1x128) broadcasts_S1x128_S128x128)
      (broadcast S128x128 (Scalar.ofBits (F := Ideal) .f32 0x00000000#32))
      (cond nat (dynamicRotate 1 64#32 none x rotates_S128x128_d1 : FVec Ideal S128x128 .f32) x))
    (select (broadcastTo S128x128 (shapeCast S1x128 k0_pay4 shapeCasts_S1x128_S1x128) broadcasts_S1x128_S128x128)
      (cond nat x (dynamicRotate 1 64#32 none x rotates_S128x128_d1 : FVec Ideal S128x128 .f32))
      (broadcast S128x128 (Scalar.ofBits (F := Ideal) .f32 0x00000000#32)))) bitsLt_bf16_f32

/-- The same for the sixteen global rows. -/
def halfm (nat par : Bool) (x : Vec Ideal S16x128 .f32) : FVec Ideal S16x128 .bf16 :=
  truncf .bf16 (cond par
    (select (broadcastTo S16x128 (shapeCast S1x128 k0_pay4 shapeCasts_S1x128_S1x128) broadcasts_S1x128_S16x128)
      (broadcast S16x128 (Scalar.ofBits (F := Ideal) .f32 0x00000000#32))
      (cond nat (dynamicRotate 1 64#32 none x rotates_S16x128_d1 : FVec Ideal S16x128 .f32) x))
    (select (broadcastTo S16x128 (shapeCast S1x128 k0_pay4 shapeCasts_S1x128_S1x128) broadcasts_S1x128_S16x128)
      (cond nat x (dynamicRotate 1 64#32 none x rotates_S16x128_d1 : FVec Ideal S16x128 .f32))
      (broadcast S16x128 (Scalar.ofBits (F := Ideal) .f32 0x00000000#32)))) bitsLt_bf16_f32

/-- The row maxima over the three sets of keys and the sink. -/
def top (lc lp : FVec Ideal S512x128 .f32) (lm : FVec Ideal S512x16 .f32) (s : FVec Ideal S512x1 .f32) : FVec Ideal S512x1 .f32 :=
  maximumf
    (maximumf (shapeCast S512x1 (multiReduction .maximumf [1] S512 lc 0xFF800000#32 reduces_S512x128_S512 (.inl rfl) rfl) shapeCasts_S512_S512x1)
      (shapeCast S512x1 (multiReduction .maximumf [1] S512 lp 0xFF800000#32 reduces_S512x128_S512 (.inl rfl) rfl) shapeCasts_S512_S512x1))
    (maximumf (shapeCast S512x1 (multiReduction .maximumf [1] S512 lm 0xFF800000#32 reduces_S512x16_S512 (.inl rfl) rfl) shapeCasts_S512_S512x1) s)

/-- The weights of a tile of scores under row maxima. -/
def wts (l : FVec Ideal S512x128 .f32) (M : FVec Ideal S512x1 .f32) : FVec Ideal S512x128 .f32 :=
  exp (subf l (broadcastTo S512x128 M broadcasts_S512x1_S512x128))

/-- The weights of the global keys. -/
def wtsm (l : FVec Ideal S512x16 .f32) (M : FVec Ideal S512x1 .f32) : FVec Ideal S512x16 .f32 :=
  exp (subf l (broadcastTo S512x16 M broadcasts_S512x1_S512x16))

/-- The queries of the four pairs of heads of a group, one below the other. -/
def stack (q0 q1 q2 q3 : Vec Ideal S128x128 .f32) : FVec Ideal S512x128 .bf16 :=
  truncf .bf16 (concatenate S512x128 0 [⟨S128x128, q0⟩, ⟨S128x128, q1⟩, ⟨S128x128, q2⟩, ⟨S128x128, q3⟩]
    concatenates_S128x128_S128x128_S128x128_S128x128_S512x128_d0 : FVec Ideal S512x128 .f32) bitsLt_bf16_f32

/-- The scaled scores against 128 keys; a key that isn't visible has the named value. -/
def score (ok : IVec S512x128 1) (k : FVec Ideal S128x128 .bf16) (q : FVec Ideal S512x128 .bf16) : FVec Ideal S512x128 .f32 :=
  select ok
    (mulf (matmul dot_S512x128_S128x128_S512x128_1_1_0_0_n_n none q k (constant S512x128 .f32 0x00000000#32) : FVec Ideal S512x128 .f32)
      (broadcast S512x128 (Scalar.ofBits (F := Ideal) .f32 0x3E000000#32)))
    (broadcast S512x128 (Named.named (F := Ideal) κ "mask" 0xF149F2CA#32))

/-- The scores against the sixteen global keys. -/
def scorem (ok : IVec S512x16 1) (k : FVec Ideal S16x128 .bf16) (q : FVec Ideal S512x128 .bf16) : FVec Ideal S512x16 .f32 :=
  select ok
    (mulf (matmul dot_S512x128_S16x128_S512x16_1_1_0_0_n_n none q k (constant S512x16 .f32 0x00000000#32) : FVec Ideal S512x16 .f32)
      (broadcast S512x16 (Scalar.ofBits (F := Ideal) .f32 0x3E000000#32)))
    (broadcast S512x16 (Named.named (F := Ideal) κ "mask" 0xF149F2CA#32))

/-- The sink logit of each row: rows `128 p` to `128 p + 127` belong to pair `p`. -/
def sinks (s0 s1 s2 s3 : Elt Ideal .f32) : FVec Ideal S512x1 .f32 :=
  select (cmpi .eq k0_pay9 (broadcast S512x1 3#32)) (broadcast S512x1 s3)
    (select (cmpi .eq k0_pay9 (broadcast S512x1 2#32)) (broadcast S512x1 s2)
      (select (cmpi .eq k0_pay9 (broadcast S512x1 1#32)) (broadcast S512x1 s1)
        (select (cmpi .eq k0_pay9 (broadcast S512x1 0#32)) (broadcast S512x1 s0)
          (broadcast S512x1 (Scalar.ofBits (F := Ideal) .f32 0x00000000#32)))))

/-- The sum of a row's weights, the sink's among them. -/
def total (ec ep : FVec Ideal S512x128 .f32) (em : FVec Ideal S512x16 .f32) (s M : FVec Ideal S512x1 .f32) : FVec Ideal S512x1 .f32 :=
  addf
    (addf
      (addf (shapeCast S512x1 (multiReduction .add [1] S512 ec 0x00000000#32 reduces_S512x128_S512 (.inl rfl) rfl) shapeCasts_S512_S512x1)
        (shapeCast S512x1 (multiReduction .add [1] S512 ep 0x00000000#32 reduces_S512x128_S512 (.inl rfl) rfl) shapeCasts_S512_S512x1))
      (shapeCast S512x1 (multiReduction .add [1] S512 em 0x00000000#32 reduces_S512x16_S512 (.inl rfl) rfl) shapeCasts_S512_S512x1))
    (exp (subf s M))

/-- The values summed with their weights. -/
def gather (ec ep : FVec Ideal S512x128 .f32) (em : FVec Ideal S512x16 .f32) (vc vp : FVec Ideal S128x128 .bf16)
    (vm : FVec Ideal S16x128 .bf16) : FVec Ideal S512x128 .f32 :=
  addf
    (addf
      (matmul dot_S512x128_S128x128_S512x128_1_0_0_1_n_n none (truncf .bf16 ec bitsLt_bf16_f32) vc (constant S512x128 .f32 0x00000000#32))
      (matmul dot_S512x128_S128x128_S512x128_1_0_0_1_n_n none (truncf .bf16 ep bitsLt_bf16_f32) vp (constant S512x128 .f32 0x00000000#32)))
    (matmul dot_S512x16_S16x128_S512x128_1_0_0_1_n_n none (truncf .bf16 em bitsLt_bf16_f32) vm (constant S512x128 .f32 0x00000000#32))

/-- The weighted mean over the visible keys, from the scores. -/
def soft (lc lp : FVec Ideal S512x128 .f32) (lm : FVec Ideal S512x16 .f32) (s : FVec Ideal S512x1 .f32) (vc vp : FVec Ideal S128x128 .bf16)
    (vm : FVec Ideal S16x128 .bf16) : FVec Ideal S512x128 .f32 :=
  divf (gather (wts lc (top lc lp lm s)) (wts lp (top lc lp lm s)) (wtsm lm (top lc lp lm s)) vc vp vm)
    (broadcastTo S512x128
      (total (wts lc (top lc lp lm s)) (wts lp (top lc lp lm s)) (wtsm lm (top lc lp lm s)) s (top lc lp lm s)) broadcasts_S512x1_S512x128)

/-- One half of the heads of a group. -/
def part (i : grid0.Coords) (nat par : Bool) (kc kp : Vec Ideal S128x128 .f32) (km : Vec Ideal S16x128 .f32)
    (vc vp : Vec Ideal S128x128 .f32) (vm : Vec Ideal S16x128 .f32) (q : FVec Ideal S512x128 .bf16) (s : FVec Ideal S512x1 .f32) :
    FVec Ideal S512x128 .f32 :=
  soft (score (k0_pay6 i) (half nat par kc) q) (score (k0_pay7 i) (half nat par kp) q) (scorem (k0_pay8 i) (halfm nat par km) q) s
    (half nat par vc) (half nat par vp) (halfm nat par vm)

/-- A group's four pairs of heads: the low halves, then the high halves. -/
def group (i : grid0.Coords) (nat : Bool) (kc kp : Vec Ideal S128x128 .f32) (km : Vec Ideal S16x128 .f32)
    (vc vp : Vec Ideal S128x128 .f32) (vm : Vec Ideal S16x128 .f32) (q0 q1 q2 q3 : Vec Ideal S128x128 .f32)
    (s0 s1 s2 s3 s4 s5 s6 s7 : Elt Ideal .f32) : FVec Ideal S512x128 .f32 :=
  addf
    (addf (broadcast S512x128 (Scalar.ofBits (F := Ideal) .f32 0x00000000#32))
      (part i nat false kc kp km vc vp vm (stack q0 q1 q2 q3) (sinks s0 s2 s4 s6)))
    (part i nat true kc kp km vc vp vm (stack q0 q1 q2 q3) (sinks s1 s3 s5 s7))

/-- A half of the columns of a key or value block, from column `o`. -/
def cols (X : Vec Ideal S128x256 .f32) (o : ℕ) (ho : ∀ a : Fin 2, (![0, o] : Fin 2 → ℕ) a + (![128, 128] : Fin 2 → ℕ) a ≤ S128x256.size a) :
    Vec Ideal S128x128 .f32 :=
  fun x => X ((Rect.unit (s := S128x256) ![0, o] ![128, 128] ho).idx x)

/-- The same columns of the block's last sixteen rows: the global keys. -/
def glob (X : Vec Ideal S128x256 .f32) (o : ℕ) (ho : ∀ a : Fin 2, (![112, o] : Fin 2 → ℕ) a + (![16, 128] : Fin 2 → ℕ) a ≤ S128x256.size a) :
    Vec Ideal S16x128 .f32 :=
  fun x => X ((Rect.unit (s := S128x256) ![112, o] ![16, 128] ho).idx x)

/-- A pair of heads' queries. -/
def qcols (X : Vec Ideal S128x2048 .f32) (o : ℕ) (ho : ∀ a : Fin 2, (![0, o] : Fin 2 → ℕ) a + (![128, 128] : Fin 2 → ℕ) a ≤ S128x2048.size a) :
    Vec Ideal S128x128 .f32 :=
  fun x => X ((Rect.unit (s := S128x2048) ![0, o] ![128, 128] ho).idx x)

/-- A sink logit. -/
def sinkOf (X : Vec Ideal S32 .f32) (n : ℕ) (hn : ∀ a : Fin 1, (![n] : Fin 1 → ℕ) a + (![1] : Fin 1 → ℕ) a ≤ S32.size a) : Elt Ideal .f32 :=
  X ((Rect.unit (s := S32) ![n] ![1] hn).idx (Shape.Idx.first (show 0 < (⟨1, ![1]⟩ : Shape).numel by decide)))

theorem fit_tile (p : Fin 4) : S512x128.Slices ![(p : ℕ) * 128, 0] S128x128 := by
  fin_cases p
  · exact slices_S512x128_o0_0_S128x128
  · exact slices_S512x128_o128_0_S128x128
  · exact slices_S512x128_o256_0_S128x128
  · exact slices_S512x128_o384_0_S128x128

theorem le_cols {o : ℕ} (ho : o + 128 ≤ 256) : ∀ a : Fin 2, (![0, o] : Fin 2 → ℕ) a + (![128, 128] : Fin 2 → ℕ) a ≤ S128x256.size a := by
  intro a; fin_cases a
  · exact Nat.le_refl 128
  · exact ho

theorem le_glob {o : ℕ} (ho : o + 128 ≤ 256) : ∀ a : Fin 2, (![112, o] : Fin 2 → ℕ) a + (![16, 128] : Fin 2 → ℕ) a ≤ S128x256.size a := by
  intro a; fin_cases a
  · exact Nat.le_refl 128
  · exact ho

theorem le_q {o : ℕ} (ho : o + 128 ≤ 2048) : ∀ a : Fin 2, (![0, o] : Fin 2 → ℕ) a + (![128, 128] : Fin 2 → ℕ) a ≤ S128x2048.size a := by
  intro a; fin_cases a
  · exact Nat.le_refl 128
  · exact ho

theorem le_s {o : ℕ} (ho : o + 1 ≤ 32) : ∀ a : Fin 1, (![o] : Fin 1 → ℕ) a + (![1] : Fin 1 → ℕ) a ≤ S32.size a := by
  intro a; fin_cases a
  exact ho

/-- The attention of one group of heads, from the blocks of a grid point and where the group's columns and sinks lie. -/
def headsOf (i : grid0.Coords) (X0 : Vec Ideal S32 .f32) (X1 : Vec Ideal S128x2048 .f32) (X2 X3 X4 X5 X6 X7 : Vec Ideal S128x256 .f32)
    (nat : Bool) (o q0 q1 q2 q3 s0 s1 s2 s3 s4 s5 s6 s7 : ℕ) (ho : o + 128 ≤ 256) (hq0 : q0 + 128 ≤ 2048) (hq1 : q1 + 128 ≤ 2048)
    (hq2 : q2 + 128 ≤ 2048) (hq3 : q3 + 128 ≤ 2048) (hs0 : s0 + 1 ≤ 32) (hs1 : s1 + 1 ≤ 32) (hs2 : s2 + 1 ≤ 32) (hs3 : s3 + 1 ≤ 32)
    (hs4 : s4 + 1 ≤ 32) (hs5 : s5 + 1 ≤ 32) (hs6 : s6 + 1 ≤ 32) (hs7 : s7 + 1 ≤ 32) : FVec Ideal S512x128 .f32 :=
  group i nat (cols X2 o (le_cols ho)) (cols X3 o (le_cols ho)) (glob X4 o (le_glob ho))
    (cols X5 o (le_cols ho)) (cols X6 o (le_cols ho)) (glob X7 o (le_glob ho))
    (qcols X1 q0 (le_q hq0)) (qcols X1 q1 (le_q hq1)) (qcols X1 q2 (le_q hq2)) (qcols X1 q3 (le_q hq3))
    (sinkOf X0 s0 (le_s hs0)) (sinkOf X0 s1 (le_s hs1)) (sinkOf X0 s2 (le_s hs2)) (sinkOf X0 s3 (le_s hs3))
    (sinkOf X0 s4 (le_s hs4)) (sinkOf X0 s5 (le_s hs5)) (sinkOf X0 s6 (le_s hs6)) (sinkOf X0 s7 (le_s hs7))

/-- The four groups. -/
def heads (i : grid0.Coords) (X0 : Vec Ideal S32 .f32) (X1 : Vec Ideal S128x2048 .f32) (X2 X3 X4 X5 X6 X7 : Vec Ideal S128x256 .f32) :
    Fin 4 → FVec Ideal S512x128 .f32
  | ⟨0, _⟩ => headsOf i X0 X1 X2 X3 X4 X5 X6 X7 true 0 0 128 256 384 0 1 2 3 4 5 6 7 (by decide) (by decide) (by decide) (by decide)
      (by decide) (by decide) (by decide) (by decide) (by decide) (by decide) (by decide) (by decide) (by decide)
  | ⟨1, _⟩ => headsOf i X0 X1 X2 X3 X4 X5 X6 X7 false 0 512 640 768 896 8 9 10 11 12 13 14 15 (by decide) (by decide) (by decide) (by decide)
      (by decide) (by decide) (by decide) (by decide) (by decide) (by decide) (by decide) (by decide) (by decide)
  | ⟨2, _⟩ => headsOf i X0 X1 X2 X3 X4 X5 X6 X7 true 128 1024 1152 1280 1408 16 17 18 19 20 21 22 23 (by decide) (by decide) (by decide) (by decide)
      (by decide) (by decide) (by decide) (by decide) (by decide) (by decide) (by decide) (by decide) (by decide)
  | ⟨3, _⟩ => headsOf i X0 X1 X2 X3 X4 X5 X6 X7 false 128 1536 1664 1792 1920 24 25 26 27 28 29 30 31 (by decide) (by decide) (by decide) (by decide)
      (by decide) (by decide) (by decide) (by decide) (by decide) (by decide) (by decide) (by decide) (by decide)

/-- Where a group's columns and sinks lie. -/
theorem heads_eq (i : grid0.Coords) (X0 : Vec Ideal S32 .f32) (X1 : Vec Ideal S128x2048 .f32) (X2 X3 X4 X5 X6 X7 : Vec Ideal S128x256 .f32) (h : Fin 4) :
    heads i X0 X1 X2 X3 X4 X5 X6 X7 h = headsOf i X0 X1 X2 X3 X4 X5 X6 X7 (Nat.beq ((h : ℕ) % 2) 0) ((h : ℕ) / 2 * 128)
      ((h : ℕ) * 512) ((h : ℕ) * 512 + 128) ((h : ℕ) * 512 + 256) ((h : ℕ) * 512 + 384)
      ((h : ℕ) * 8) ((h : ℕ) * 8 + 1) ((h : ℕ) * 8 + 2) ((h : ℕ) * 8 + 3) ((h : ℕ) * 8 + 4) ((h : ℕ) * 8 + 5) ((h : ℕ) * 8 + 6) ((h : ℕ) * 8 + 7)
      (by omega) (by omega) (by omega) (by omega) (by omega) (by omega) (by omega) (by omega) (by omega) (by omega) (by omega) (by omega) (by omega) := by
  fin_cases h <;> rfl

/-- The rows of one pair of heads. -/
def tile (p : Fin 4) (G : FVec Ideal S512x128 .f32) : FVec Ideal S128x128 .bf16 :=
  truncf .bf16 (extractStridedSlice S128x128 ![(p : ℕ) * 128, 0] G (fit_tile p)) bitsLt_bf16_f32

end Cert.SwaIdeal.Att

end
-- ==== Proof.SwaPoint.lean ====
module

public import proofs.«01_k».proof.Proof.Gen.SwaIdeal.Frame
public import proofs.«01_k».proof.Proof.SwaTile

@[expose] public section

set_option maxRecDepth 16384

noncomputable section

open Idealize.ShloMosaic Idealize.ShloMosaic.TcCoe Idealize.SL.Sem
open Idealize.ShloMosaic.Pipeline (Dat)

namespace Cert.SwaIdeal.Att

open Cert.SwaIdeal Cert.SwaIdeal.Gen
variable (m : (ℓ : Loc nD τ sig) → Buf (Elt Ideal) ℓ)

/-- A pair's rows of its group, found from the block's column. -/
theorem tile_at (H : Fin 4 → FVec Ideal S512x128 .f32) (h p : Fin 4) (x : S128x128.Idx) (y : S128x2048.Idx)
    (h0 : (y 0 : ℕ) = x 0) (h1 : (y 1 : ℕ) = (h : ℕ) * 512 + (p : ℕ) * 128 + x 1) (hx0 : (x 0 : ℕ) < 128) (hx1 : (x 1 : ℕ) < 128)
    (h' : Fin 4) (ρ : Fin 512) (l : Fin 128) (hh : (h' : ℕ) = (y 1 : ℕ) / 512) (hρ : (ρ : ℕ) = (y 1 : ℕ) / 128 % 4 * 128 + y 0)
    (hl : (l : ℕ) = (y 1 : ℕ) % 128) : tile p (H h) x = H h' (ix2 ρ l) := by
  obtain rfl : h' = h := Fin.ext (by omega)
  pointwise [tile]
  blk_ext

/-- The groups of heads at a grid point. -/
def HD (c : Dev nD) (t : Fin cfg0.N) : Fin 4 → FVec Ideal S512x128 .f32 :=
  heads (grid0.coords t) (iblk m c 0 t) (X0_1 m c t) (iblk m c 2 t) (iblk m c 3 t) (iblk m c 4 t) (iblk m c 5 t) (iblk m c 6 t) (iblk m c 7 t)

/-- What a grid point leaves in its block: the groups of heads, side by side. -/
theorem outs_eq (c : Dev nD) (t : Fin cfg0.N) (y : S128x2048.Idx) (h' : Fin 4) (ρ : Fin 512) (l : Fin 128) (hh : (h' : ℕ) = (y 1 : ℕ) / 512)
    (hρ : (ρ : ℕ) = (y 1 : ℕ) / 128 % 4 * 128 + y 0) (hl : (l : ℕ) = (y 1 : ℕ) % 128) : outsAt0 (F := Ideal) m c t y
    = HD m c t h' (ix2 ρ l) := by
  unfold Gen.outsAt0
  frame_out
  canon_tiles x hxx
  all_goals (try rw [Memref.IsWhole.read_unread (hs0_1 t) (X0_1 m c t)])
  case piece0 => exact Eq.trans (b := tile 3 (HD m c t 3) x) (by sl_kernel_rfl) (tile_at (HD m c t) 3 3 x y (by simpa using hxx0) (by simpa using hxx1) x0_lt x1_lt h' ρ l hh hρ hl)
  case piece1 => exact Eq.trans (b := tile 2 (HD m c t 3) x) (by sl_kernel_rfl) (tile_at (HD m c t) 3 2 x y (by simpa using hxx0) (by simpa using hxx1) x0_lt x1_lt h' ρ l hh hρ hl)
  case piece2 => exact Eq.trans (b := tile 1 (HD m c t 3) x) (by sl_kernel_rfl) (tile_at (HD m c t) 3 1 x y (by simpa using hxx0) (by simpa using hxx1) x0_lt x1_lt h' ρ l hh hρ hl)
  case piece3 => exact Eq.trans (b := tile 0 (HD m c t 3) x) (by sl_kernel_rfl) (tile_at (HD m c t) 3 0 x y (by simpa using hxx0) (by simpa using hxx1) x0_lt x1_lt h' ρ l hh hρ hl)
  case piece4 => exact Eq.trans (b := tile 3 (HD m c t 2) x) (by sl_kernel_rfl) (tile_at (HD m c t) 2 3 x y (by simpa using hxx0) (by simpa using hxx1) x0_lt x1_lt h' ρ l hh hρ hl)
  case piece5 => exact Eq.trans (b := tile 2 (HD m c t 2) x) (by sl_kernel_rfl) (tile_at (HD m c t) 2 2 x y (by simpa using hxx0) (by simpa using hxx1) x0_lt x1_lt h' ρ l hh hρ hl)
  case piece6 => exact Eq.trans (b := tile 1 (HD m c t 2) x) (by sl_kernel_rfl) (tile_at (HD m c t) 2 1 x y (by simpa using hxx0) (by simpa using hxx1) x0_lt x1_lt h' ρ l hh hρ hl)
  case piece7 => exact Eq.trans (b := tile 0 (HD m c t 2) x) (by sl_kernel_rfl) (tile_at (HD m c t) 2 0 x y (by simpa using hxx0) (by simpa using hxx1) x0_lt x1_lt h' ρ l hh hρ hl)
  case piece8 => exact Eq.trans (b := tile 3 (HD m c t 1) x) (by sl_kernel_rfl) (tile_at (HD m c t) 1 3 x y (by simpa using hxx0) (by simpa using hxx1) x0_lt x1_lt h' ρ l hh hρ hl)
  case piece9 => exact Eq.trans (b := tile 2 (HD m c t 1) x) (by sl_kernel_rfl) (tile_at (HD m c t) 1 2 x y (by simpa using hxx0) (by simpa using hxx1) x0_lt x1_lt h' ρ l hh hρ hl)
  case piece10 => exact Eq.trans (b := tile 1 (HD m c t 1) x) (by sl_kernel_rfl) (tile_at (HD m c t) 1 1 x y (by simpa using hxx0) (by simpa using hxx1) x0_lt x1_lt h' ρ l hh hρ hl)
  case piece11 => exact Eq.trans (b := tile 0 (HD m c t 1) x) (by sl_kernel_rfl) (tile_at (HD m c t) 1 0 x y (by simpa using hxx0) (by simpa using hxx1) x0_lt x1_lt h' ρ l hh hρ hl)
  case piece12 => exact Eq.trans (b := tile 3 (HD m c t 0) x) (by sl_kernel_rfl) (tile_at (HD m c t) 0 3 x y (by simpa using hxx0) (by simpa using hxx1) x0_lt x1_lt h' ρ l hh hρ hl)
  case piece13 => exact Eq.trans (b := tile 2 (HD m c t 0) x) (by sl_kernel_rfl) (tile_at (HD m c t) 0 2 x y (by simpa using hxx0) (by simpa using hxx1) x0_lt x1_lt h' ρ l hh hρ hl)
  case piece14 => exact Eq.trans (b := tile 1 (HD m c t 0) x) (by sl_kernel_rfl) (tile_at (HD m c t) 0 1 x y (by simpa using hxx0) (by simpa using hxx1) x0_lt x1_lt h' ρ l hh hρ hl)
  case piece15 => exact Eq.trans (b := tile 0 (HD m c t 0) x) (by sl_kernel_rfl) (tile_at (HD m c t) 0 0 x y (by simpa using hxx0) (by simpa using hxx1) x0_lt x1_lt h' ρ l hh hρ hl)

end Cert.SwaIdeal.Att

end
-- ==== Proof.SwaRow.lean ====
module

public import proofs.«01_k».proof.Proof.SwaTile

/-! One element of the attention kernel's tiles: the softmax of a row of scores, the halves of the lanes. -/

@[expose] public section

set_option maxRecDepth 16384

noncomputable section

open Idealize.ShloMosaic Idealize.ShloMosaic.TcCoe Idealize.SL.Sem
open Idealize.ShloMosaic.Pipeline (Dat)

namespace Cert.SwaIdeal.Att

open Cert.SwaIdeal Cert.SwaIdeal.Gen

/-- The largest of a row's scores and its sink. -/
def peak (lc lp : Fin 128 → EReal) (lm : Fin 16 → EReal) (s : EReal) : EReal :=
  max (max (Finset.univ.sup lc) (Finset.univ.sup lp)) (max (Finset.univ.sup lm) s)

/-- The sum of a row's weights. -/
def mass (lc lp : Fin 128 → EReal) (lm : Fin 16 → EReal) (s M : EReal) : EReal :=
  ∑ k, Ideal.exp (lc k - M) + ∑ k, Ideal.exp (lp k - M) + ∑ k, Ideal.exp (lm k - M) + Ideal.exp (s - M)

/-- A row's values summed with their weights. -/
def blend (lc lp : Fin 128 → EReal) (lm : Fin 16 → EReal) (M : EReal) (vc vp : Fin 128 → EReal) (vm : Fin 16 → EReal) : EReal :=
  ∑ k, Ideal.exp (lc k - M) * vc k + ∑ k, Ideal.exp (lp k - M) * vp k + ∑ k, Ideal.exp (lm k - M) * vm k

/-- The weighted mean of a row's values. -/
def att (lc lp : Fin 128 → EReal) (lm : Fin 16 → EReal) (s : EReal) (vc vp : Fin 128 → EReal) (vm : Fin 16 → EReal) : EReal :=
  Ideal.div (blend lc lp lm (peak lc lp lm s) vc vp vm) (mass lc lp lm s (peak lc lp lm s))

theorem bot_word : Ideal.ofBits FTy.f32 4286578688#32 = (⊥ : EReal) := by
  simp [Ideal.ofBits, Ideal.ieee]

/-- The scale. -/
theorem eighth_word : Ideal.ofBits FTy.f32 1040187392#32 = (((1 : ℝ) / 8 : ℝ) : EReal) := by
  simp [Ideal.ofBits, Ideal.ieee]
  rw [← EReal.coe_mul]
  norm_num

theorem pick_one {α : Type} (a b : α) : Scalar.select 1#1 a b = a := rfl

theorem pick_zero {α : Type} (a b : α) : Scalar.select 0#1 a b = b := rfl

theorem top_at (lc lp : FVec Ideal S512x128 .f32) (lm : FVec Ideal S512x16 .f32) (s : FVec Ideal S512x1 .f32) (ρ : Fin 512) :
    top lc lp lm s (ix2 ρ 0) = peak (fun k => lc (ix2 ρ k)) (fun k => lp (ix2 ρ k)) (fun k => lm (ix2 ρ k)) (s (ix2 ρ 0)) := by
  pointwise [top]
  rw [bot_word]
  rfl

theorem soft_at (lc lp : FVec Ideal S512x128 .f32) (lm : FVec Ideal S512x16 .f32) (s : FVec Ideal S512x1 .f32)
    (vc vp : FVec Ideal S128x128 .bf16) (vm : FVec Ideal S16x128 .bf16) (ρ : Fin 512) (l : Fin 128) :
    soft lc lp lm s vc vp vm (ix2 ρ l) = att (fun k => lc (ix2 ρ k)) (fun k => lp (ix2 ρ k)) (fun k => lm (ix2 ρ k)) (s (ix2 ρ 0))
      (fun k => vc (ix2 k l)) (fun k => vp (ix2 k l)) (fun k => vm (ix2 k l)) := by
  unfold att mass blend
  rw [← top_at]
  generalize hM : top lc lp lm s = M
  pointwise [soft, gather, total, wts, wtsm]
  rw [hM]

/-- The queries of a row. -/
theorem stack_at (q0 q1 q2 q3 : Vec Ideal S128x128 .f32) (ρ : Fin 512) (l : Fin 128) :
    stack q0 q1 q2 q3 (ix2 ρ l) = (if (ρ : ℕ) / 128 = 0 then q0 else if (ρ : ℕ) / 128 = 1 then q1 else if (ρ : ℕ) / 128 = 2 then q2 else q3)
      (ix2 ⟨(ρ : ℕ) % 128, by omega⟩ l) := by
  have e : ∀ (a b : Fin 128) (x : Vec Ideal S128x128 .f32), (a : ℕ) = b → x (ix2 a l) = x (ix2 b l) := fun a b x hab => by rw [Fin.ext hab]
  have hlt := ρ.isLt
  pointwise [stack]
  by_cases h0 : (ρ : ℕ) < 128
  · refine (dif_pos h0).trans ?_
    exact (e _ ⟨ρ % 128, by omega⟩ q0 (by show (ρ : ℕ) = ρ % 128; omega)).trans (congrFun (if_pos (by omega)).symm _)
  refine (dif_neg h0).trans ?_
  by_cases h1 : (ρ : ℕ) - 128 < 128
  · refine (dif_pos h1).trans ?_
    exact (e _ ⟨ρ % 128, by omega⟩ q1 (by show (ρ : ℕ) - 128 = ρ % 128; omega)).trans (congrFun ((if_neg (by omega)).trans (if_pos (by omega))).symm _)
  refine (dif_neg h1).trans ?_
  by_cases h2 : (ρ : ℕ) - 128 - 128 < 128
  · refine (dif_pos h2).trans ?_
    exact (e _ ⟨ρ % 128, by omega⟩ q2 (by show (ρ : ℕ) - 128 - 128 = ρ % 128; omega)).trans (congrFun ((if_neg (by omega)).trans ((if_neg (by omega)).trans (if_pos (by omega)))).symm _)
  refine (dif_neg h2).trans ?_
  exact (e _ ⟨ρ % 128, by omega⟩ q3 (by show (ρ : ℕ) - 128 - 128 - 128 = ρ % 128; omega)).trans (congrFun ((if_neg (by omega)).trans ((if_neg (by omega)).trans (if_neg (by omega)))).symm _)

theorem sinks_at (s0 s1 s2 s3 : Elt Ideal .f32) (ρ : Fin 512) : sinks s0 s1 s2 s3 (ix2 ρ 0)
    = if ρ.val / 128 = 0 then s0 else if ρ.val / 128 = 1 then s1 else if ρ.val / 128 = 2 then s2 else s3 := by
  have e : ∀ ρ : Fin 512, IntOp.shrsi ArithUnit.vector (BitVec.ofNat 32 ↑ρ) 7#32 = BitVec.ofNat 32 (ρ.val / 128) := by decide +kernel
  pointwise [sinks, k0_pay9]
  rw [e]
  have : (ρ : ℕ) / 128 < 4 := by omega
  generalize (ρ : ℕ) / 128 = n at this
  interval_cases n <;> rfl

theorem low_lane : ∀ l : Fin 128, IntOp.cmpi CmpIPredicate.slt (BitVec.ofNat 32 ↑l) 64#32 = if (l : ℕ) < 64 then 1#1 else 0#1 := by
  decide +kernel

/-- A lane of a half: the head's own lane, or 0. -/
theorem half_at (nat par : Bool) (x : Vec Ideal S128x128 .f32) (k : Fin 128) (l : Fin 128) : half nat par x (ix2 k l)
    = if (l : ℕ) / 64 = cond par 1 0 then x (ix2 k ⟨cond nat 0 64 + (l : ℕ) % 64, by cases nat <;> simp only [cond] <;> omega⟩) else (0 : EReal) := by
  have hl := l.isLt
  have e : ∀ (a b : Fin 128), (a : ℕ) = b → x (ix2 k a) = x (ix2 k b) := fun a b hab => by rw [Fin.ext hab]
  unfold half
  cases par <;> cases nat <;> dsimp only [cond]
  all_goals
    pointwise [k0_pay4]
    rw [low_lane]
    by_cases h : (l : ℕ) < 64
  all_goals
    first
    | rw [if_pos h, pick_one, if_pos (by omega)]
    | rw [if_pos h, pick_one, if_neg (by omega)]
    | rw [if_neg h, pick_zero, if_pos (by omega)]
    | rw [if_neg h, pick_zero, if_neg (by omega)]
  all_goals try (refine e _ _ ?_; dsimp only; omega)
  all_goals blk_ext

/-- The same for the global rows. -/
theorem halfm_at (nat par : Bool) (x : Vec Ideal S16x128 .f32) (k : Fin 16) (l : Fin 128) : halfm nat par x (ix2 k l)
    = if (l : ℕ) / 64 = cond par 1 0 then x (ix2 k ⟨cond nat 0 64 + (l : ℕ) % 64, by cases nat <;> simp only [cond] <;> omega⟩) else (0 : EReal) := by
  have hl := l.isLt
  have e : ∀ (a b : Fin 128), (a : ℕ) = b → x (ix2 k a) = x (ix2 k b) := fun a b hab => by rw [Fin.ext hab]
  unfold halfm
  cases par <;> cases nat <;> dsimp only [cond]
  all_goals
    pointwise [k0_pay4]
    rw [low_lane]
    by_cases h : (l : ℕ) < 64
  all_goals
    first
    | rw [if_pos h, pick_one, if_pos (by omega)]
    | rw [if_pos h, pick_one, if_neg (by omega)]
    | rw [if_neg h, pick_zero, if_pos (by omega)]
    | rw [if_neg h, pick_zero, if_neg (by omega)]
  all_goals try (refine e _ _ ?_; dsimp only; omega)
  all_goals blk_ext

theorem mask_word : Named.named (F := Ideal) (φ := .f32) κ "mask" 4048155338#32 = (⊥ : EReal) := by
  simp [Named.named, κ]

theorem score_at (ok : IVec S512x128 1) (k : FVec Ideal S128x128 .bf16) (q : FVec Ideal S512x128 .bf16) (ρ : Fin 512) (l : Fin 128) :
    score ok k q (ix2 ρ l) = if ok (ix2 ρ l) = 1#1 then (∑ x : Fin 128, q (ix2 ρ x) * k (ix2 l x)) * (((1 : ℝ) / 8 : ℝ) : EReal) else ⊥ := by
  pointwise [score]
  rw [Scalar.select_def, eighth_word, mask_word]
  rfl

theorem scorem_at (ok : IVec S512x16 1) (k : FVec Ideal S16x128 .bf16) (q : FVec Ideal S512x128 .bf16) (ρ : Fin 512) (l : Fin 16) :
    scorem ok k q (ix2 ρ l) = if ok (ix2 ρ l) = 1#1 then (∑ x : Fin 128, q (ix2 ρ x) * k (ix2 l x)) * (((1 : ℝ) / 8 : ℝ) : EReal) else ⊥ := by
  pointwise [scorem]
  rw [Scalar.select_def, eighth_word, mask_word]
  rfl

end Cert.SwaIdeal.Att

end
-- ==== Proof.SwaMask.lean ====
module

public import proofs.«01_k».proof.Proof.SwaRow

/-! Which keys a row of the attention kernel's tiles sees. -/

@[expose] public section

set_option maxRecDepth 16384

noncomputable section

open Idealize.ShloMosaic Idealize.ShloMosaic.TcCoe Idealize.SL.Sem
open Idealize.ShloMosaic.Pipeline (Dat)

namespace Cert.SwaIdeal.Att

open Cert.SwaIdeal Cert.SwaIdeal.Gen

theorem low_bits : ∀ ρ : Fin 512, IntOp.andi (BitVec.ofNat 32 ↑ρ) 127#32 = BitVec.ofNat 32 (ρ.val % 128) := by decide +kernel

theorem cur_word : ∀ k r : Fin 128, (IntOp.cmpi CmpIPredicate.sle (BitVec.ofNat 32 ↑k) (IntOp.addi (BitVec.ofNat 32 ↑r) 0#32) = 1#1 ↔ (k : ℕ) ≤ r)
    ∧ IntOp.cmpi CmpIPredicate.sle (BitVec.ofNat 32 ↑k) (IntOp.addi (BitVec.ofNat 32 ↑r) 4294967040#32) ≠ 1#1 := by decide +kernel

theorem prev_word : ∀ k r : Fin 128, (IntOp.cmpi CmpIPredicate.sgt (BitVec.ofNat 32 ↑k) (IntOp.addi (BitVec.ofNat 32 ↑r) 0#32) = 1#1 ↔ (r : ℕ) < k)
    ∧ IntOp.cmpi CmpIPredicate.sgt (BitVec.ofNat 32 ↑k) (IntOp.addi (BitVec.ofNat 32 ↑r) 256#32) ≠ 1#1 := by decide +kernel

theorem meta_word : ∀ (k : Fin 16) (r : Fin 128), (IntOp.cmpi CmpIPredicate.sge (IntOp.addi (IntOp.subi (BitVec.ofNat 32 ↑r) 112#32) 0#32) (BitVec.ofNat 32 ↑k) = 1#1 ↔ 112 + (k : ℕ) ≤ r)
    ∧ IntOp.cmpi CmpIPredicate.sge (IntOp.addi (IntOp.subi (BitVec.ofNat 32 ↑r) 112#32) 128#32) (BitVec.ofNat 32 ↑k) = 1#1 := by decide +kernel

theorem first_block : ∀ n : Fin 65, Scalar.cmpi CmpIPredicate.sge (BitVec.ofNat 32 ↑n) 1#32 = if 1 ≤ (n : ℕ) then 1#1 else 0#1 := by decide +kernel
theorem second_block : ∀ n : Fin 65, Scalar.cmpi CmpIPredicate.sge (BitVec.ofNat 32 ↑n) 2#32 = if 2 ≤ (n : ℕ) then 1#1 else 0#1 := by decide +kernel

/-- Which keys of its own block a row sees. -/
theorem cur_at (i : grid0.Coords) (ρ : Fin 512) (k : Fin 128) : k0_pay6 i (ix2 ρ k) = 1#1 ↔ 1 ≤ (i 0 : ℕ) ∧ (k : ℕ) ≤ ρ % 128 := by
  pointwise [k0_pay6, k0_pay5]
  rw [low_bits, first_block ⟨(i 0 : ℕ), (i 0).isLt⟩]
  by_cases h : 1 ≤ (i 0 : ℕ)
  · rw [if_pos h, pick_one]
    simpa [h] using (cur_word k ⟨(ρ : ℕ) % 128, by omega⟩).1
  · rw [if_neg h, pick_zero]
    simpa [h] using (cur_word k ⟨(ρ : ℕ) % 128, by omega⟩).2

/-- Which keys of the block before it. -/
theorem prev_at (i : grid0.Coords) (ρ : Fin 512) (k : Fin 128) : k0_pay7 i (ix2 ρ k) = 1#1 ↔ 2 ≤ (i 0 : ℕ) ∧ (ρ : ℕ) % 128 < k := by
  pointwise [k0_pay7, k0_pay5]
  rw [low_bits, second_block ⟨(i 0 : ℕ), (i 0).isLt⟩]
  by_cases h : 2 ≤ (i 0 : ℕ)
  · rw [if_pos h, pick_one]
    simpa [h] using (prev_word k ⟨(ρ : ℕ) % 128, by omega⟩).1
  · rw [if_neg h, pick_zero]
    simpa [h] using (prev_word k ⟨(ρ : ℕ) % 128, by omega⟩).2

/-- Which of the global keys. -/
theorem meta_at (i : grid0.Coords) (ρ : Fin 512) (k : Fin 16) : k0_pay8 i (ix2 ρ k) = 1#1 ↔ 1 ≤ (i 0 : ℕ) ∨ 112 + (k : ℕ) ≤ (ρ : ℕ) % 128 := by
  pointwise [k0_pay8, k0_pay5]
  rw [low_bits, first_block ⟨(i 0 : ℕ), (i 0).isLt⟩]
  by_cases h : 1 ≤ (i 0 : ℕ)
  · rw [if_pos h, pick_one]
    simpa [h] using (meta_word k ⟨(ρ : ℕ) % 128, by omega⟩).2
  · rw [if_neg h, pick_zero]
    simpa [h] using (meta_word k ⟨(ρ : ℕ) % 128, by omega⟩).1

end Cert.SwaIdeal.Att

end
-- ==== Proof.SwaSpec.lean ====
module

public import proofs.«01_k».proof.Proof.SwaRow

/-! The attention's element as one formula of the inputs, and what finite scores give. -/

@[expose] public section

set_option maxRecDepth 16384

noncomputable section

open Idealize.ShloMosaic Idealize.ShloMosaic.TcCoe Idealize.SL.Sem

namespace Cert.SwaIdeal.Att

open Cert.SwaIdeal Cert.SwaIdeal.Gen

/-- A matrix's entry at two numbers. -/
def ent {n k : ℕ} (A : (⟨2, ![n, k]⟩ : Shape).Idx → EReal) (i j : ℕ) : EReal :=
  if h : i < n ∧ j < k then A (ix2 ⟨i, h.1⟩ ⟨j, h.2⟩) else 0

theorem ent_eq {n k : ℕ} (A : (⟨2, ![n, k]⟩ : Shape).Idx → EReal) (x : (⟨2, ![n, k]⟩ : Shape).Idx) (i j : ℕ) (hi : (x 0 : ℕ) = i) (hj : (x 1 : ℕ) = j) :
    A x = ent A i j := by
  subst hi hj
  unfold ent
  rw [dif_pos ⟨(x 0).isLt, (x 1).isLt⟩]
  exact congrArg A (funext fun a => by match a with | ⟨0, _⟩ => rfl | ⟨1, _⟩ => rfl)

/-- The scaled product of a query row and a key row. -/
def dotAt (A : S8320x10752.Idx → EReal) (R J qh : ℕ) : EReal :=
  (∑ d : Fin 64, ent A R (8192 + 64 * qh + d) * ent A J (10240 + 64 * (qh / 8) + d)) * (((1 : ℝ) / 8 : ℝ) : EReal)

/-- The scores of a row's own block, of the block before it and of the global keys, −infinity where the key is not seen. -/
def curL (A : S8320x10752.Idx → EReal) (n r qh : ℕ) (k : Fin 128) : EReal :=
  if 1 ≤ n ∧ (k : ℕ) ≤ r then dotAt A (128 * n + r) (128 * n + k) qh else ⊥
@[inherit_doc curL] def prevL (A : S8320x10752.Idx → EReal) (n r qh : ℕ) (k : Fin 128) : EReal :=
  if 2 ≤ n ∧ r < (k : ℕ) then dotAt A (128 * n + r) (128 * (n - 1) + k) qh else ⊥
@[inherit_doc curL] def metaL (A : S8320x10752.Idx → EReal) (n r qh : ℕ) (k : Fin 16) : EReal :=
  if 1 ≤ n ∨ 112 + (k : ℕ) ≤ r then dotAt A (128 * n + r) (112 + k) qh else ⊥

/-- A value. -/
def valAt (A : S8320x10752.Idx → EReal) (J qh d : ℕ) : EReal := ent A J (10496 + 64 * (qh / 8) + d)

/-- The attention's element: row `r` of block `n`, query head `qh`, lane `d`. -/
def spec (A : S8320x10752.Idx → EReal) (s : EReal) (n r qh d : ℕ) : EReal :=
  att (curL A n r qh) (prevL A n r qh) (metaL A n r qh) s
    (fun k => valAt A (128 * n + k) qh d) (fun k => valAt A (128 * (n - 1) + k) qh d) (fun k => valAt A (112 + k) qh d)

/-- The sink of a query head. -/
def sinkAt (S : S32.Idx → EReal) (j : ℕ) : EReal := if h : j < 32 then S (ix1 ⟨j, h⟩) else 0

/-- A value that is a real. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.sum {ι : Type} (s : Finset ι) (f : ι → EReal) (hf : ∀ i, Real' (f i)) : Real' (∑ i ∈ s, f i) := by
  classical
  induction s using Finset.induction_on with
  | empty => exact ⟨0, by simp⟩
  | insert a s ha ih =>
    rw [Finset.sum_insert ha]
    obtain ⟨x, hx⟩ := hf a
    obtain ⟨y, hy⟩ := ih
    exact ⟨x + y, by rw [hx, hy, EReal.coe_add]⟩

theorem Real'.lt_top {x : EReal} (hx : Real' x) : x < ⊤ := by
  obtain ⟨a, rfl⟩ := hx
  exact EReal.coe_lt_top a

/-- Queries and keys from the first used row on are finite. -/
def Finite (A : S8320x10752.Idx → EReal) : Prop := ∀ i j : ℕ, 112 ≤ i → 8192 ≤ j → j < 10496 → Real' (ent A i j)

theorem dot_real {A : S8320x10752.Idx → EReal} (hA : Finite A) {R J qh : ℕ} (hR : 112 ≤ R) (hJ : 112 ≤ J) (hq : qh < 32) : Real' (dotAt A R J qh) :=
  (Real'.sum _ _ fun d => (hA _ _ hR (by omega) (by omega)).mul (hA _ _ hJ (by omega) (by omega))).mul ⟨_, rfl⟩

theorem cur_lt {A : S8320x10752.Idx → EReal} (hA : Finite A) {n r qh : ℕ} (hq : qh < 32) (k : Fin 128) : curL A n r qh k < ⊤ := by
  unfold curL
  split_ifs with h
  · exact (dot_real hA (by omega) (by omega) hq).lt_top
  · exact bot_lt_top

theorem prev_lt {A : S8320x10752.Idx → EReal} (hA : Finite A) {n r qh : ℕ} (hq : qh < 32) (k : Fin 128) : prevL A n r qh k < ⊤ := by
  unfold prevL
  split_ifs with h
  · exact (dot_real hA (by omega) (by omega) hq).lt_top
  · exact bot_lt_top

theorem meta_lt {A : S8320x10752.Idx → EReal} (hA : Finite A) {n r qh : ℕ} (hq : qh < 32) (k : Fin 16) : metaL A n r qh k < ⊤ := by
  unfold metaL
  split_ifs with h
  · exact (dot_real hA (by omega) (by omega) hq).lt_top
  · exact bot_lt_top

theorem peak_lt {lc lp : Fin 128 → EReal} {lm : Fin 16 → EReal} {s : EReal} (hc : ∀ k, lc k < ⊤) (hp : ∀ k, lp k < ⊤) (hm : ∀ k, lm k < ⊤) (hs : Real' s) :
    peak lc lp lm s < ⊤ := by
  unfold peak
  have t : (⊥ : EReal) < ⊤ := bot_lt_top
  exact max_lt (max_lt ((Finset.sup_lt_iff t).2 fun k _ => hc k) ((Finset.sup_lt_iff t).2 fun k _ => hp k))
    (max_lt ((Finset.sup_lt_iff t).2 fun k _ => hm k) hs.lt_top)

theorem exp_nonneg (x : EReal) : 0 ≤ Ideal.exp x := by
  induction x with
  | bot => exact le_of_eq rfl
  | top => exact le_top
  | coe x => exact EReal.coe_nonneg.2 (Real.exp_pos x).le

theorem exp_bot : Ideal.exp ⊥ = 0 := rfl

theorem mass_pos {lc lp : Fin 128 → EReal} {lm : Fin 16 → EReal} {s M : EReal} (hs : Real' s) (hM : M < ⊤) (hsM : s ≤ M) : 0 < mass lc lp lm s M := by
  unfold mass
  have e : 0 < Ideal.exp (s - M) := by
    obtain ⟨a, rfl⟩ := hs
    induction M with
    | bot => exact absurd hsM (not_le.2 (EReal.bot_lt_coe a))
    | top => exact absurd hM (lt_irrefl _)
    | coe x =>
      rw [← EReal.coe_sub]
      exact EReal.coe_pos.2 (Real.exp_pos _)
  have n : ∀ {m : ℕ} (l : Fin m → EReal), 0 ≤ ∑ k, Ideal.exp (l k - M) := fun l => Finset.sum_nonneg fun k _ => exp_nonneg _
  exact lt_of_lt_of_le e (le_add_of_nonneg_left (add_nonneg (add_nonneg (n lc) (n lp)) (n lm)))

theorem sink_le (lc lp : Fin 128 → EReal) (lm : Fin 16 → EReal) (s : EReal) : s ≤ peak lc lp lm s :=
  le_trans (le_max_right _ _) (le_max_right _ _)

/-- With finite scores the denominator is positive. -/
theorem spec_mass {A : S8320x10752.Idx → EReal} (hA : Finite A) {s : EReal} (hs : Real' s) {n r qh : ℕ} (hq : qh < 32) :
    0 < mass (curL A n r qh) (prevL A n r qh) (metaL A n r qh) s (peak (curL A n r qh) (prevL A n r qh) (metaL A n r qh) s) :=
  mass_pos hs (peak_lt (cur_lt hA hq) (prev_lt hA hq) (meta_lt hA hq) hs) (sink_le _ _ _ _)

theorem weight_bot (M v : EReal) : Ideal.exp (⊥ - M) * v = 0 := by
  rw [EReal.bot_sub, exp_bot, zero_mul]

/-- Values of keys that are not seen do not matter. -/
theorem att_congr {lc lp : Fin 128 → EReal} {lm : Fin 16 → EReal} {s : EReal} {vc vp wc wp : Fin 128 → EReal} {vm wm : Fin 16 → EReal}
    (hc : ∀ k, lc k = ⊥ ∨ vc k = wc k) (hp : ∀ k, lp k = ⊥ ∨ vp k = wp k) (hm : ∀ k, lm k = ⊥ ∨ vm k = wm k) :
    att lc lp lm s vc vp vm = att lc lp lm s wc wp wm := by
  have e : ∀ (l v w M : EReal), l = ⊥ ∨ v = w → Ideal.exp (l - M) * v = Ideal.exp (l - M) * w := fun l v w M h => by
    rcases h with rfl | rfl
    · rw [weight_bot, weight_bot]
    · rfl
  unfold att blend
  rw [Finset.sum_congr rfl fun k _ => e _ _ _ _ (hc k), Finset.sum_congr rfl fun k _ => e _ _ _ _ (hp k), Finset.sum_congr rfl fun k _ => e _ _ _ _ (hm k)]

/-- With no value there is nothing. -/
theorem att_zero {lc lp : Fin 128 → EReal} {lm : Fin 16 → EReal} {s : EReal} (h : 0 < mass lc lp lm s (peak lc lp lm s)) :
    att lc lp lm s (fun _ => 0) (fun _ => 0) (fun _ => 0) = 0 := by
  unfold att blend
  simp only [mul_zero, Finset.sum_const_zero, add_zero]
  unfold Ideal.div
  rw [if_neg h.ne', zero_mul]

theorem sum_mul_of {ι : Type} (s : Finset ι) (f : ι → EReal) {x : EReal} (h : 0 ≤ x) (ht : x ≠ ⊤) : (∑ i ∈ s, f i) * x = ∑ i ∈ s, f i * x := by
  classical
  induction s using Finset.induction_on with
  | empty => simp
  | insert a s ha ih => rw [Finset.sum_insert ha, Finset.sum_insert ha, EReal.right_distrib_of_nonneg_of_ne_top h ht, ih]

theorem inv_ne_top (x : EReal) : x⁻¹ ≠ ⊤ := by
  induction x with
  | bot => simp
  | top => simp
  | coe x =>
    rw [← EReal.coe_inv]
    exact EReal.coe_ne_top _

/-- A sum over the 273 entries of the reference's rows. -/
theorem sum_row {M : Type} [AddCommMonoid M] (f : Fin 273 → M) : ∑ i, f i
    = ∑ k : Fin 16, f ⟨k, by omega⟩ + (∑ k : Fin 128, f ⟨16 + k, by omega⟩ + ∑ k : Fin 128, f ⟨144 + k, by omega⟩) + f ⟨272, by omega⟩ := by
  rw [Fin.sum_univ_castSucc, ← Fin.sum_congr' _ (by decide : 16 + 256 = 272), Fin.sum_univ_add, ← Fin.sum_congr' _ (by decide : 128 + 128 = 256), Fin.sum_univ_add]
  congr 1

theorem sum_band {M : Type} [AddCommMonoid M] (f : Fin 256 → M) : ∑ i, f i
    = ∑ k : Fin 128, f ⟨k, by omega⟩ + ∑ k : Fin 128, f ⟨128 + k, by omega⟩ := by
  rw [← Fin.sum_congr' _ (by decide : 128 + 128 = 256), Fin.sum_univ_add]
  rfl

/-- The largest of the 273 entries. -/
theorem sup_row (f : Fin 273 → EReal) : Finset.univ.sup f
    = peak (fun k => f ⟨144 + k, by omega⟩) (fun k => f ⟨16 + k, by omega⟩) (fun k => f ⟨k, by omega⟩) (f ⟨272, by omega⟩) := by
  unfold peak
  refine le_antisymm (Finset.sup_le fun i _ => ?_) (max_le (max_le (Finset.sup_le fun k _ => Finset.le_sup (Finset.mem_univ _)) (Finset.sup_le fun k _ => Finset.le_sup (Finset.mem_univ _)))
    (max_le (Finset.sup_le fun k _ => Finset.le_sup (Finset.mem_univ _)) (Finset.le_sup (Finset.mem_univ _))))
  have hi := i.isLt
  by_cases h0 : (i : ℕ) < 16
  · exact le_trans (Finset.le_sup (f := fun k : Fin 16 => f ⟨k, by omega⟩) (Finset.mem_univ (⟨i, h0⟩ : Fin 16))) (le_trans (le_max_left _ _) (le_max_right _ _))
  by_cases h1 : (i : ℕ) < 144
  · have e : f i = (fun k : Fin 128 => f ⟨16 + k, by omega⟩) ⟨i - 16, by omega⟩ := congrArg f (Fin.ext (by show (i : ℕ) = 16 + (i - 16); omega))
    rw [e]
    exact le_trans (Finset.le_sup (f := fun k : Fin 128 => f ⟨16 + k, by omega⟩) (Finset.mem_univ _)) (le_trans (le_max_right _ _) (le_max_left _ _))
  by_cases h2 : (i : ℕ) < 272
  · have e : f i = (fun k : Fin 128 => f ⟨144 + k, by omega⟩) ⟨i - 144, by omega⟩ := congrArg f (Fin.ext (by show (i : ℕ) = 144 + (i - 144); omega))
    rw [e]
    exact le_trans (Finset.le_sup (f := fun k : Fin 128 => f ⟨144 + k, by omega⟩) (Finset.mem_univ _)) (le_trans (le_max_left _ _) (le_max_left _ _))
  · have e : i = ⟨272, by omega⟩ := Fin.ext (by show (i : ℕ) = 272; omega)
    rw [e]
    exact le_trans (le_max_right _ _) (le_max_right _ _)

/-- Weights divided first, as the reference has them: the same mean. -/
theorem att_divided (L : Fin 273 → EReal) (vm : Fin 16 → EReal) (vb : Fin 256 → EReal) (lc lp : Fin 128 → EReal) (lm : Fin 16 → EReal) (s : EReal)
    (hm : ∀ k : Fin 16, L ⟨k, by omega⟩ = lm k) (hp : ∀ k : Fin 128, L ⟨16 + k, by omega⟩ = lp k) (hc : ∀ k : Fin 128, L ⟨144 + k, by omega⟩ = lc k)
    (hs : L ⟨272, by omega⟩ = s) (hD : 0 < mass lc lp lm s (peak lc lp lm s)) :
    ∑ k : Fin 16, vm k * Ideal.div (Ideal.exp (L ⟨k, by omega⟩ - Finset.univ.sup L)) (∑ i, Ideal.exp (L i - Finset.univ.sup L))
      + ∑ k : Fin 256, vb k * Ideal.div (Ideal.exp (L ⟨16 + k, by omega⟩ - Finset.univ.sup L)) (∑ i, Ideal.exp (L i - Finset.univ.sup L))
    = att lc lp lm s (fun k => vb ⟨128 + k, by omega⟩) (fun k => vb ⟨k, by omega⟩) vm := by
  have hM : Finset.univ.sup L = peak lc lp lm s := by
    rw [sup_row, hs]
    congr 1
    · exact funext hc
    · exact funext hp
    · exact funext hm
  have hS : ∑ i, Ideal.exp (L i - Finset.univ.sup L) = mass lc lp lm s (peak lc lp lm s) := by
    rw [hM, sum_row]
    unfold mass
    simp only [hs, hm, hp, hc]
    ac_rfl
  rw [hS, hM]
  unfold att
  have hn := hD.ne'
  generalize mass lc lp lm s (peak lc lp lm s) = D at hD hn
  generalize peak lc lp lm s = M
  have hi : 0 ≤ D⁻¹ := EReal.inv_nonneg_of_nonneg hD.le
  have ht := inv_ne_top D
  unfold Ideal.div blend
  simp only [if_neg hn]
  rw [EReal.right_distrib_of_nonneg_of_ne_top hi ht, EReal.right_distrib_of_nonneg_of_ne_top hi ht, sum_mul_of _ _ hi ht, sum_mul_of _ _ hi ht, sum_mul_of _ _ hi ht, sum_band]
  have e : ∀ v w : EReal, v * (w * D⁻¹) = w * v * D⁻¹ := fun v w => by rw [← mul_assoc, mul_comm v w]
  simp only [e]
  have hc' : ∀ k : Fin 128, L ⟨16 + (128 + (k : ℕ)), by omega⟩ = lc k := fun k => (congrArg L (Fin.ext (by show 16 + (128 + (k : ℕ)) = 144 + k; omega))).trans (hc k)
  simp only [hm, hp, hc']
  ac_rfl

end Cert.SwaIdeal.Att

end
-- ==== Proof.SwaHead.lean ====
module

public import proofs.«01_k».proof.Proof.SwaMask
public import proofs.«01_k».proof.Proof.SwaSpec

/-! One element of a group of heads is the attention's element. -/

@[expose] public section

set_option maxRecDepth 16384

noncomputable section

open Idealize.ShloMosaic Idealize.ShloMosaic.TcCoe Idealize.SL.Sem
open Idealize.ShloMosaic.Pipeline (Dat)

namespace Cert.SwaIdeal.Att

open Cert.SwaIdeal Cert.SwaIdeal.Gen

/-- A product with a half's lanes is the sum over its 64 own. -/
theorem lanes (par : Bool) (q H : Fin 128 → EReal) (Q G : ℕ → EReal) (hq : ∀ x : Fin 128, q x = Q x)
    (hH : ∀ x : Fin 128, H x = if (x : ℕ) / 64 = cond par 1 0 then G ((x : ℕ) % 64) else 0) :
    ∑ x, q x * H x = ∑ d : Fin 64, Q (cond par 64 0 + (d : ℕ)) * G d := by
  have lo : ∀ d : Fin 64, (d : ℕ) / 64 = 0 := fun d => by omega
  have hi : ∀ d : Fin 64, (64 + (d : ℕ)) / 64 = 1 := fun d => by omega
  have lo' : ∀ d : Fin 64, (d : ℕ) % 64 = d := fun d => by omega
  rw [← Fin.sum_congr' _ (by decide : 64 + 64 = 128), Fin.sum_univ_add]
  simp only [hq, hH, Fin.val_cast, Fin.val_castAdd, Fin.val_natAdd, lo, hi, lo', Nat.add_mod_left]
  cases par <;> simp

section

variable (A : S8320x10752.Idx → EReal) (hA : Finite A) (n h : ℕ) (i : grid0.Coords) (hn : (i 0 : ℕ) = n) (hh : h < 4)
  (nat par : Bool) (hnat : cond nat 0 64 = h % 2 * 64)

include hnat in
/-- A half's lane, read in the whole matrix. -/
theorem half_ent (c J : ℕ) (x : Vec Ideal S128x128 .f32) (k l : Fin 128) (hx : ∀ j : Fin 128, x (ix2 k j) = ent A J (c + h / 2 * 128 + j)) :
    half nat par x (ix2 k l) = if (l : ℕ) / 64 = cond par 1 0 then ent A J (c + 64 * h + (l : ℕ) % 64) else 0 := by
  rw [half_at, hx]
  dsimp only
  rw [hnat, show c + h / 2 * 128 + (h % 2 * 64 + (l : ℕ) % 64) = c + 64 * h + (l : ℕ) % 64 by omega]

include hnat in
@[inherit_doc half_ent] theorem halfm_ent (c J : ℕ) (x : Vec Ideal S16x128 .f32) (k : Fin 16) (l : Fin 128) (hx : ∀ j : Fin 128, x (ix2 k j) = ent A J (c + h / 2 * 128 + j)) :
    halfm nat par x (ix2 k l) = if (l : ℕ) / 64 = cond par 1 0 then ent A J (c + 64 * h + (l : ℕ) % 64) else 0 := by
  rw [halfm_at, hx]
  dsimp only
  rw [hnat, show c + h / 2 * 128 + (h % 2 * 64 + (l : ℕ) % 64) = c + 64 * h + (l : ℕ) % 64 by omega]

/-- A product of a query row with a key's half. -/
theorem dot_ent (p R J : ℕ) (hp : p < 4) (q H : Fin 128 → EReal) (hq : ∀ x : Fin 128, q x = ent A R (8192 + h * 512 + 128 * p + x))
    (hH : ∀ x : Fin 128, H x = if (x : ℕ) / 64 = cond par 1 0 then ent A J (10240 + 64 * h + (x : ℕ) % 64) else 0) :
    (∑ x, q x * H x) * (((1 : ℝ) / 8 : ℝ) : EReal) = dotAt A R J (8 * h + 2 * p + cond par 1 0) := by
  unfold dotAt
  rw [lanes par q H (fun x => ent A R (8192 + h * 512 + 128 * p + x)) (fun x => ent A J (10240 + 64 * h + x)) hq hH]
  refine congrArg (· * _) (Finset.sum_congr rfl fun d _ => ?_)
  congr 2
  · cases par <;> simp only [cond] <;> omega
  · cases par <;> simp only [cond] <;> omega

include hA hn hh hnat in
/-- One half of a group at an element: the attention's element on its own lanes, 0 on the others. -/
theorem part_at (kc kp : Vec Ideal S128x128 .f32) (km : Vec Ideal S16x128 .f32) (vc vp : Vec Ideal S128x128 .f32) (vm : Vec Ideal S16x128 .f32)
    (q : FVec Ideal S512x128 .bf16) (s : FVec Ideal S512x1 .f32) (ρ : Fin 512) (l : Fin 128)
    (hkc : ∀ k j : Fin 128, kc (ix2 k j) = ent A (128 * n + k) (10240 + h / 2 * 128 + j))
    (hkp : ∀ k j : Fin 128, kp (ix2 k j) = ent A (128 * (n - 1) + k) (10240 + h / 2 * 128 + j))
    (hkm : ∀ (k : Fin 16) (j : Fin 128), km (ix2 k j) = ent A (112 + k) (10240 + h / 2 * 128 + j))
    (hvc : ∀ k j : Fin 128, vc (ix2 k j) = ent A (128 * n + k) (10496 + h / 2 * 128 + j))
    (hvp : ∀ k j : Fin 128, vp (ix2 k j) = ent A (128 * (n - 1) + k) (10496 + h / 2 * 128 + j))
    (hvm : ∀ (k : Fin 16) (j : Fin 128), vm (ix2 k j) = ent A (112 + k) (10496 + h / 2 * 128 + j))
    (hq : ∀ x : Fin 128, q (ix2 ρ x) = ent A (128 * n + (ρ : ℕ) % 128) (8192 + h * 512 + 128 * ((ρ : ℕ) / 128) + x))
    (hs : Real' (s (ix2 ρ 0))) : part i nat par kc kp km vc vp vm q s (ix2 ρ l)
    = if (l : ℕ) / 64 = cond par 1 0 then spec A (s (ix2 ρ 0)) n ((ρ : ℕ) % 128) (8 * h + 2 * ((ρ : ℕ) / 128) + cond par 1 0) ((l : ℕ) % 64) else 0 := by
  have hp : (ρ : ℕ) / 128 < 4 := by omega
  have hb : cond par 1 0 < 2 := by cases par <;> decide
  have hqh : (8 * h + 2 * ((ρ : ℕ) / 128) + cond par 1 0) / 8 = h := by omega
  unfold part
  rw [soft_at]
  have ec : (fun k : Fin 128 => score (k0_pay6 i) (half nat par kc) q (ix2 ρ k)) = curL A n ((ρ : ℕ) % 128) (8 * h + 2 * ((ρ : ℕ) / 128) + cond par 1 0) := funext fun k => by
    rw [score_at, dot_ent A h par ((ρ : ℕ) / 128) _ _ hp _ _ hq fun x => half_ent A h nat par hnat 10240 _ kc k x (hkc k)]
    unfold curL
    refine if_congr ?_ rfl rfl
    rw [cur_at, hn]
  have ep : (fun k : Fin 128 => score (k0_pay7 i) (half nat par kp) q (ix2 ρ k)) = prevL A n ((ρ : ℕ) % 128) (8 * h + 2 * ((ρ : ℕ) / 128) + cond par 1 0) := funext fun k => by
    rw [score_at, dot_ent A h par ((ρ : ℕ) / 128) _ _ hp _ _ hq fun x => half_ent A h nat par hnat 10240 _ kp k x (hkp k)]
    unfold prevL
    refine if_congr ?_ rfl rfl
    rw [prev_at, hn]
  have em : (fun k : Fin 16 => scorem (k0_pay8 i) (halfm nat par km) q (ix2 ρ k)) = metaL A n ((ρ : ℕ) % 128) (8 * h + 2 * ((ρ : ℕ) / 128) + cond par 1 0) := funext fun k => by
    rw [scorem_at, dot_ent A h par ((ρ : ℕ) / 128) _ _ hp _ _ hq fun x => halfm_ent A h nat par hnat 10240 _ km k x (hkm k)]
    unfold metaL
    refine if_congr ?_ rfl rfl
    rw [meta_at, hn]
  rw [ec, ep, em]
  simp only [half_ent A h nat par hnat 10496 _ vc _ l (hvc _), half_ent A h nat par hnat 10496 _ vp _ l (hvp _), halfm_ent A h nat par hnat 10496 _ vm _ l (hvm _)]
  by_cases hl : (l : ℕ) / 64 = cond par 1 0
  · simp only [if_pos hl]
    unfold spec valAt
    simp only [hqh]
  · simp only [if_neg hl]
    exact att_zero (spec_mass hA hs (by omega))

end

theorem group_at (i : grid0.Coords) (nat : Bool) (kc kp : Vec Ideal S128x128 .f32) (km : Vec Ideal S16x128 .f32) (vc vp : Vec Ideal S128x128 .f32) (vm : Vec Ideal S16x128 .f32)
    (q0 q1 q2 q3 : Vec Ideal S128x128 .f32) (s0 s1 s2 s3 s4 s5 s6 s7 : Elt Ideal .f32) (x : S512x128.Idx) :
    group i nat kc kp km vc vp vm q0 q1 q2 q3 s0 s1 s2 s3 s4 s5 s6 s7 x
    = part i nat false kc kp km vc vp vm (stack q0 q1 q2 q3) (sinks s0 s2 s4 s6) x + part i nat true kc kp km vc vp vm (stack q0 q1 q2 q3) (sinks s1 s3 s5 s7) x := by
  unfold group
  pointwise

/-- A group of heads at an element. -/
theorem heads_at (A : S8320x10752.Idx → EReal) (S : S32.Idx → EReal) (hA : Finite A) (hS : ∀ j, Real' (sinkAt S j)) (n : ℕ) (i : grid0.Coords) (hn : (i 0 : ℕ) = n)
    (X0 : Vec Ideal S32 .f32) (X1 : Vec Ideal S128x2048 .f32) (X2 X3 X4 X5 X6 X7 : Vec Ideal S128x256 .f32)
    (h0 : ∀ x : S32.Idx, X0 x = sinkAt S (x 0)) (h1 : ∀ x : S128x2048.Idx, X1 x = ent A (128 * n + (x 0 : ℕ)) (8192 + (x 1 : ℕ)))
    (h2 : ∀ x : S128x256.Idx, X2 x = ent A (128 * n + (x 0 : ℕ)) (10240 + (x 1 : ℕ)))
    (h3 : ∀ x : S128x256.Idx, X3 x = ent A (128 * (n - 1) + (x 0 : ℕ)) (10240 + (x 1 : ℕ)))
    (h4 : ∀ x : S128x256.Idx, X4 x = ent A (x 0 : ℕ) (10240 + (x 1 : ℕ)))
    (h5 : ∀ x : S128x256.Idx, X5 x = ent A (128 * n + (x 0 : ℕ)) (10496 + (x 1 : ℕ)))
    (h6 : ∀ x : S128x256.Idx, X6 x = ent A (128 * (n - 1) + (x 0 : ℕ)) (10496 + (x 1 : ℕ)))
    (h7 : ∀ x : S128x256.Idx, X7 x = ent A (x 0 : ℕ) (10496 + (x 1 : ℕ))) (h : Fin 4) (ρ : Fin 512) (l : Fin 128) (qh : ℕ)
    (hqh : qh = 8 * (h : ℕ) + 2 * ((ρ : ℕ) / 128) + (l : ℕ) / 64) :
    heads i X0 X1 X2 X3 X4 X5 X6 X7 h (ix2 ρ l) = spec A (sinkAt S qh) n ((ρ : ℕ) % 128) qh ((l : ℕ) % 64) := by
  have hh := h.isLt
  have hρ := ρ.isLt
  have hl := l.isLt
  have hnat : cond (Nat.beq ((h : ℕ) % 2) 0) 0 64 = (h : ℕ) % 2 * 64 := by
    have : (h : ℕ) % 2 < 2 := by omega
    generalize (h : ℕ) % 2 = a at this
    interval_cases a <;> rfl
  have co : ∀ (X : Vec Ideal S128x256 .f32) (R : ℕ → ℕ) (c : ℕ) (hX : ∀ x : S128x256.Idx, X x = ent A (R (x 0 : ℕ)) (c + (x 1 : ℕ))) (k j : Fin 128),
      cols X ((h : ℕ) / 2 * 128) (le_cols (by omega)) (ix2 k j) = ent A (R k) (c + (h : ℕ) / 2 * 128 + j) := fun X R c hX k j => by
    refine (hX _).trans ?_
    congr 1
    · exact congrArg R (by show 0 + 1 * (k : ℕ) = k; omega)
    · show c + ((h : ℕ) / 2 * 128 + 1 * (j : ℕ)) = _; omega
  have gl : ∀ (X : Vec Ideal S128x256 .f32) (c : ℕ) (hX : ∀ x : S128x256.Idx, X x = ent A (x 0 : ℕ) (c + (x 1 : ℕ))) (k : Fin 16) (j : Fin 128),
      glob X ((h : ℕ) / 2 * 128) (le_glob (by omega)) (ix2 k j) = ent A (112 + k) (c + (h : ℕ) / 2 * 128 + j) := fun X c hX k j => by
    refine (hX _).trans ?_
    congr 1
    · show 112 + 1 * (k : ℕ) = _; omega
    · show c + ((h : ℕ) / 2 * 128 + 1 * (j : ℕ)) = _; omega
  have qc : ∀ (o : ℕ) (ho : o + 128 ≤ 2048) (k j : Fin 128), qcols X1 o (le_q ho) (ix2 k j) = ent A (128 * n + k) (8192 + o + j) := fun o ho k j => by
    refine (h1 _).trans ?_
    congr 1
    · show 128 * n + (0 + 1 * (k : ℕ)) = _; omega
    · show 8192 + (o + 1 * (j : ℕ)) = _; omega
  have si : ∀ (o : ℕ) (ho : o + 1 ≤ 32), sinkOf X0 o (le_s ho) = sinkAt S o := fun o ho => (h0 _).trans (congrArg _ (by show o + 1 * 0 = o; omega))
  have hp : (ρ : ℕ) / 128 < 4 := by omega
  rw [heads_eq]
  unfold headsOf
  rw [group_at]
  rw [si ((h : ℕ) * 8) (by omega), si ((h : ℕ) * 8 + 1) (by omega), si ((h : ℕ) * 8 + 2) (by omega), si ((h : ℕ) * 8 + 3) (by omega), si ((h : ℕ) * 8 + 4) (by omega), si ((h : ℕ) * 8 + 5) (by omega), si ((h : ℕ) * 8 + 6) (by omega), si ((h : ℕ) * 8 + 7) (by omega)]
  have hq : ∀ x : Fin 128, stack (qcols X1 ((h : ℕ) * 512) (le_q (by omega))) (qcols X1 ((h : ℕ) * 512 + 128) (le_q (by omega)))
      (qcols X1 ((h : ℕ) * 512 + 256) (le_q (by omega))) (qcols X1 ((h : ℕ) * 512 + 384) (le_q (by omega))) (ix2 ρ x)
      = ent A (128 * n + (ρ : ℕ) % 128) (8192 + (h : ℕ) * 512 + 128 * ((ρ : ℕ) / 128) + x) := fun x => by
    rw [stack_at]
    split_ifs with a b c
    · rw [qc _ (by omega)]; congr 1; omega
    · rw [qc _ (by omega)]; congr 1; omega
    · rw [qc _ (by omega)]; congr 1; omega
    · rw [qc _ (by omega)]; congr 1; omega
  have hs0 : sinks (sinkAt S ((h : ℕ) * 8)) (sinkAt S ((h : ℕ) * 8 + 2)) (sinkAt S ((h : ℕ) * 8 + 4)) (sinkAt S ((h : ℕ) * 8 + 6)) (ix2 ρ 0)
      = sinkAt S (8 * (h : ℕ) + 2 * ((ρ : ℕ) / 128) + cond false 1 0) := by
    rw [sinks_at]
    split_ifs <;> exact congrArg _ (by simp only [cond]; omega)
  have hs1 : sinks (sinkAt S ((h : ℕ) * 8 + 1)) (sinkAt S ((h : ℕ) * 8 + 3)) (sinkAt S ((h : ℕ) * 8 + 5)) (sinkAt S ((h : ℕ) * 8 + 7)) (ix2 ρ 0)
      = sinkAt S (8 * (h : ℕ) + 2 * ((ρ : ℕ) / 128) + cond true 1 0) := by
    rw [sinks_at]
    split_ifs <;> exact congrArg _ (by simp only [cond]; omega)
  have P := fun par s => part_at A hA n h i hn hh (Nat.beq ((h : ℕ) % 2) 0) par hnat _ _ _ _ _ _ _ s ρ l (co X2 (fun k => 128 * n + k) 10240 h2) (co X3 (fun k => 128 * (n - 1) + k) 10240 h3)
    (gl X4 10240 h4) (co X5 (fun k => 128 * n + k) 10496 h5) (co X6 (fun k => 128 * (n - 1) + k) 10496 h6) (gl X7 10496 h7) hq
  rw [P false _ (by rw [hs0]; exact hS _), P true _ (by rw [hs1]; exact hS _), hs0, hs1, hqh]
  dsimp only [cond]
  by_cases e : (l : ℕ) / 64 = 0
  · rw [if_pos e, if_neg (by omega), add_zero, e]
  · have e1 : (l : ℕ) / 64 = 1 := by omega
    rw [if_neg e, if_pos e1, zero_add, e1]

end Cert.SwaIdeal.Att

end
-- ==== Proof.SwaFinal.lean ====
module

public import proofs.«01_k».proof.Proof.SwaPoint
public import proofs.«01_k».proof.Proof.SwaHead

/-! The attention kernel's result array: the attention's element everywhere. -/

@[expose] public section

set_option maxRecDepth 16384

noncomputable section

open Idealize.ShloMosaic Idealize.ShloMosaic.TcCoe Idealize.SL.Sem
open Idealize.ShloMosaic.Pipeline (Dat)

namespace Cert.SwaIdeal.Att

open Cert.SwaIdeal Cert.SwaIdeal.Gen

variable (m : (ℓ : Loc nD τ sig) → Buf (Elt Ideal) ℓ)

/-- The projected rows. -/
abbrev mat (c : Dev nD) : S8320x10752.Idx → EReal := m ((c : Thread nD τ).loc main_arg0)

/-- The sinks. -/
abbrev snk (c : Dev nD) : S32.Idx → EReal := m ((c : Thread nD τ).loc main_arg1)

theorem coord (t : Fin cfg0.N) : ((grid0.coords t) 0 : ℕ) = t := by
  revert t
  decide +kernel

theorem idx_val : ∀ t : Fin cfg0.N, win0_0.index t = ![0] ∧ win0_1.index t = ![t.val, 4] ∧ win0_2.index t = ![t.val, 40] ∧ win0_3.index t = ![t.val - 1, 40] ∧ win0_4.index t = ![0, 40]
    ∧ win0_5.index t = ![t.val, 41] ∧ win0_6.index t = ![t.val - 1, 41] ∧ win0_7.index t = ![0, 41] ∧ win0_8.index t = ![t.val, 0] :=
  (by decide +kernel : ∀ t : Fin grid0.N, _)

theorem blk0 (c : Dev nD) (t : Fin cfg0.N) (x : S32.Idx) : iblk m c 0 t x = sinkAt (snk m c) (x 0) := by
  unfold sinkAt
  have hx : (x 0 : ℕ) < 32 := (x 0).isLt
  rw [dif_pos hx]
  blk_point [iblk, V, idx_val t]

theorem blk1 (c : Dev nD) (t : Fin cfg0.N) (x : S128x2048.Idx) : X0_1 m c t x = ent (mat m c) (128 * (t : ℕ) + (x 0 : ℕ)) (8192 + (x 1 : ℕ)) := by
  unfold X0_1 Pipeline.Window.fill
  rw [dif_pos (moved0_1 t x)]
  refine ent_eq (mat m c) (((cfg0.win 1).blk t).view.emb _) _ _ ?_ ?_ <;> blk_simp [idx_val t] <;> dsimp only <;> omega

theorem blk2 (c : Dev nD) (t : Fin cfg0.N) (x : S128x256.Idx) : iblk m c 2 t x = ent (mat m c) (128 * (t : ℕ) + (x 0 : ℕ)) (10240 + (x 1 : ℕ)) := by
  refine ent_eq (mat m c) (((cfg0.win 2).blk t).view.emb x) _ _ ?_ ?_ <;> blk_simp [idx_val t] <;> omega

theorem blk3 (c : Dev nD) (t : Fin cfg0.N) (x : S128x256.Idx) : iblk m c 3 t x = ent (mat m c) (128 * ((t : ℕ) - 1) + (x 0 : ℕ)) (10240 + (x 1 : ℕ)) := by
  refine ent_eq (mat m c) (((cfg0.win 3).blk t).view.emb x) _ _ ?_ ?_ <;> blk_simp [idx_val t] <;> omega

theorem blk4 (c : Dev nD) (t : Fin cfg0.N) (x : S128x256.Idx) : iblk m c 4 t x = ent (mat m c) (x 0 : ℕ) (10240 + (x 1 : ℕ)) := by
  refine ent_eq (mat m c) (((cfg0.win 4).blk t).view.emb x) _ _ ?_ ?_ <;> blk_simp [idx_val t] <;> omega

theorem blk5 (c : Dev nD) (t : Fin cfg0.N) (x : S128x256.Idx) : iblk m c 5 t x = ent (mat m c) (128 * (t : ℕ) + (x 0 : ℕ)) (10496 + (x 1 : ℕ)) := by
  refine ent_eq (mat m c) (((cfg0.win 5).blk t).view.emb x) _ _ ?_ ?_ <;> blk_simp [idx_val t] <;> omega

theorem blk6 (c : Dev nD) (t : Fin cfg0.N) (x : S128x256.Idx) : iblk m c 6 t x = ent (mat m c) (128 * ((t : ℕ) - 1) + (x 0 : ℕ)) (10496 + (x 1 : ℕ)) := by
  refine ent_eq (mat m c) (((cfg0.win 6).blk t).view.emb x) _ _ ?_ ?_ <;> blk_simp [idx_val t] <;> omega

theorem blk7 (c : Dev nD) (t : Fin cfg0.N) (x : S128x256.Idx) : iblk m c 7 t x = ent (mat m c) (x 0 : ℕ) (10496 + (x 1 : ℕ)) := by
  refine ent_eq (mat m c) (((cfg0.win 7).blk t).view.emb x) _ _ ?_ ?_ <;> blk_simp [idx_val t] <;> omega

/-- The whole result. -/
def whole (A : S8320x10752.Idx → EReal) (S : S32.Idx → EReal) : S8320x2048.Idx → EReal := fun x =>
  spec A (sinkAt S ((x 1 : ℕ) / 64)) ((x 0 : ℕ) / 128) ((x 0 : ℕ) % 128) ((x 1 : ℕ) / 64) ((x 1 : ℕ) % 64)

/-- The result array after the run is the attention's. -/
theorem final (c : Dev nD) (hA : Finite (mat m c)) (hS : ∀ j, Real' (sinkAt (snk m c) j)) : (dats m 0 c).arrAt 8 cfg0.N = whole (mat m c) (snk m c) := by
  refine (dats m 0 c).arrAt_eq_of_covers 8 _ (by decide +kernel) fun t _ y => ?_
  blk_simp
  rw [after0_8]
  have y0 : (y 0 : ℕ) < 128 := (y 0).isLt
  have y1 : (y 1 : ℕ) < 2048 := (y 1).isLt
  refine (outs_eq m c t y ⟨(y 1 : ℕ) / 512, by omega⟩ ⟨(y 1 : ℕ) / 128 % 4 * 128 + y 0, by omega⟩ ⟨(y 1 : ℕ) % 128, by omega⟩ rfl rfl rfl).trans ?_
  unfold HD
  refine (heads_at (mat m c) (snk m c) hA hS t (grid0.coords t) (coord t) _ _ _ _ _ _ _ _ (blk0 m c t) (blk1 m c t) (blk2 m c t) (blk3 m c t) (blk4 m c t) (blk5 m c t)
    (blk6 m c t) (blk7 m c t) _ _ _ ((y 1 : ℕ) / 64) (by dsimp only; omega)).trans ?_
  unfold whole
  have e0 : ((((cfg0.win 8).blk t).view.emb y 0 : Fin _) : ℕ) = 128 * t + y 0 := by blk_simp [idx_val t]; omega
  have e1 : ((((cfg0.win 8).blk t).view.emb y 1 : Fin _) : ℕ) = y 1 := by blk_simp [idx_val t]
  dsimp only
  rw [e0, e1]
  congr 1 <;> omega

end Cert.SwaIdeal.Att

end
-- ==== Proof.SwaFinite.lean ====
module

public import proofs.«01_k».proof.Proof.Gen.Pre_qk_finite
public import proofs.«01_k».proof.Proof.SwaSpec
public import Idealize.ShloMosaic.Lib.KernelVsHost

/-! What the precondition gives: the queries, the keys and the sinks are reals. -/

@[expose] public section

set_option maxRecDepth 16384

noncomputable section

open Idealize.ShloMosaic Idealize.SL.Sem

namespace Cert.SwaIdeal.Att

/-- A value whose magnitude is below infinity is a real. -/
theorem real_of_olt (x : Ideal .f32) (h : FloatOps.cmpf .olt (FloatOps.hostAbsf x) (FloatOps.ofBits (F := Ideal) .f32 0x7F800000#32) = 1#1) : Real' x := by
  rw [← Ideal.xori_weird_eq_hostAbsf_olt_inf] at h
  have hn : ¬ ((x : EReal) = ⊤ ∨ (x : EReal) = ⊥) := fun hw => by
    have e : FloatOps.weird x = 1#1 := by
      show BitVec.ofBool (decide ((x : EReal) = ⊤ ∨ (x : EReal) = ⊥)) = 1#1
      rw [decide_eq_true hw]
      rfl
    rw [e] at h
    exact absurd h (by decide)
  exact ⟨EReal.toReal x, (EReal.coe_toReal (fun e => hn (Or.inl e)) (fun e => hn (Or.inr e))).symm⟩

/-- The queries and the keys are reals. -/
theorem finite_of_pre (A : (⟨2, ![8320, 10752]⟩ : Shape).Idx → EReal) (S : (⟨1, ![32]⟩ : Shape).Idx → EReal)
    (h : (Cert.Pre_qk_finite.fn (F := Ideal) A S).1 = (fun _ => 1#1)) : Finite A := by
  intro i j hi hj hj'
  unfold ent
  split_ifs with hx
  · have e := congrFun h (ix2 ⟨i - 112, by omega⟩ ⟨j - 8192, by omega⟩)
    refine real_of_olt _ (Eq.trans ?_ e)
    unfold Cert.Pre_qk_finite.fn
    refine congrArg (fun z => FloatOps.cmpf (F := Ideal) .olt (FloatOps.hostAbsf z) (FloatOps.ofBits (F := Ideal) .f32 0x7F800000#32)) ?_
    exact (extractStridedSlice_apply (s := Cert.Pre_qk_finite.S8320x10752) (t := Cert.Pre_qk_finite.S8208x2304) ![112, 8192] A Cert.Pre_qk_finite.Facts.slices_S8320x10752_S8208x2304_112_8192
      (ix2 ⟨i - 112, by omega⟩ ⟨j - 8192, by omega⟩) (ix2 ⟨i, hx.1⟩ ⟨j, hx.2⟩) (fun a => by
      match a with
      | ⟨0, _⟩ => show i = 112 + (i - 112); omega
      | ⟨1, _⟩ => show j = 8192 + (j - 8192); omega)).symm
  · exact ⟨0, rfl⟩

/-- The sinks are reals. -/
theorem sinks_of_pre (A : (⟨2, ![8320, 10752]⟩ : Shape).Idx → EReal) (S : (⟨1, ![32]⟩ : Shape).Idx → EReal)
    (h : (Cert.Pre_qk_finite.fn (F := Ideal) A S).2 = (fun _ => 1#1)) (j : ℕ) : Real' (sinkAt S j) := by
  unfold sinkAt
  split_ifs with hx
  · refine real_of_olt _ (Eq.trans ?_ (congrFun h (ix1 ⟨j, hx⟩)))
    unfold Cert.Pre_qk_finite.fn
    rfl
  · exact ⟨0, rfl⟩

end Cert.SwaIdeal.Att

end
-- ==== Proof.SwaRefIn.lean ====
module

public import proofs.«01_k».proof.Proof.Gen.SwaRefIdeal.Read
public import proofs.«01_k».proof.Proof.SwaSpec
public import Idealize.ShloMosaic.Lib.KernelVsHost
public import Idealize.ShloMosaic.Lib.ValueIdxRank6

/-! The reference's queries, keys and values, read off the projected rows. -/

@[expose] public section

set_option maxRecDepth 16384

noncomputable section

open Idealize.ShloMosaic Idealize.ShloMosaic.TcCoe Idealize.SL.Sem

namespace Cert.SwaRefIdeal.Att

open Cert.SwaRefIdeal Cert.SwaRefIdeal.Gen Cert.SwaRefIdeal.Read Cert.SwaIdeal.Att

variable (A : (⟨S8320x10752, .f32⟩ : BufTy).Contents (Elt Ideal))

theorem q_raw (i : S1x8208x2048.Idx) : val_main_v2 A i = ent A (112 + (i 1 : ℕ)) (8192 + (i 2 : ℕ)) := by
  rw [val_main_v2_apply, val_main_v1_apply, val_main_v0_apply]
  exact ent_eq A _ _ _ rfl rfl

theorem k_raw (i : S1x8208x256.Idx) : val_main_v3 A i = ent A (112 + (i 1 : ℕ)) (10240 + (i 2 : ℕ)) := by
  rw [val_main_v3_apply, val_main_v1_apply, val_main_v0_apply]
  exact ent_eq A _ _ _ rfl rfl

theorem v_raw (i : S1x8208x256.Idx) : val_main_v4 A i = ent A (112 + (i 1 : ℕ)) (10496 + (i 2 : ℕ)) := by
  rw [val_main_v4_apply, val_main_v1_apply, val_main_v0_apply]
  exact ent_eq A _ _ _ rfl rfl

/-- A used row of the padded queries. -/
theorem q_pad (i : S1x8320x2048.Idx) (h : 112 ≤ (i 1 : ℕ)) : val_main_v5 A i = ent A (i 1) (8192 + (i 2 : ℕ)) := by
  have h1 : (i 1 : ℕ) < 8320 := (i 1).isLt
  have h2 : (i 2 : ℕ) < 2048 := (i 2).isLt
  have h0 : (i 0 : ℕ) < 1 := (i 0).isLt
  unfold val_main_v5
  rw [pad_apply_of_inside _ _ _ _ _ _ _ i (ix3 ⟨0, by decide⟩ ⟨(i 1 : ℕ) - 112, by omega⟩ ⟨(i 2 : ℕ), h2⟩) (fun a => by
    match a with
    | ⟨0, _⟩ => show (i 0 : ℕ) = 0 + 0 * 1; omega
    | ⟨1, _⟩ => show (i 1 : ℕ) = 112 + ((i 1 : ℕ) - 112) * 1; omega
    | ⟨2, _⟩ => show (i 2 : ℕ) = 0 + (i 2 : ℕ) * 1; omega), q_raw]
  congr 1
  show 112 + ((i 1 : ℕ) - 112) = _
  omega

theorem k_pad (i : S1x8320x256.Idx) (h : 112 ≤ (i 1 : ℕ)) : val_main_v6 A i = ent A (i 1) (10240 + (i 2 : ℕ)) := by
  have h1 : (i 1 : ℕ) < 8320 := (i 1).isLt
  have h2 : (i 2 : ℕ) < 256 := (i 2).isLt
  have h0 : (i 0 : ℕ) < 1 := (i 0).isLt
  unfold val_main_v6
  rw [pad_apply_of_inside _ _ _ _ _ _ _ i (ix3 ⟨0, by decide⟩ ⟨(i 1 : ℕ) - 112, by omega⟩ ⟨(i 2 : ℕ), h2⟩) (fun a => by
    match a with
    | ⟨0, _⟩ => show (i 0 : ℕ) = 0 + 0 * 1; omega
    | ⟨1, _⟩ => show (i 1 : ℕ) = 112 + ((i 1 : ℕ) - 112) * 1; omega
    | ⟨2, _⟩ => show (i 2 : ℕ) = 0 + (i 2 : ℕ) * 1; omega), k_raw]
  congr 1
  show 112 + ((i 1 : ℕ) - 112) = _
  omega

theorem v_pad (i : S1x8320x256.Idx) (h : 112 ≤ (i 1 : ℕ)) : val_main_v7 A i = ent A (i 1) (10496 + (i 2 : ℕ)) := by
  have h1 : (i 1 : ℕ) < 8320 := (i 1).isLt
  have h2 : (i 2 : ℕ) < 256 := (i 2).isLt
  have h0 : (i 0 : ℕ) < 1 := (i 0).isLt
  unfold val_main_v7
  rw [pad_apply_of_inside _ _ _ _ _ _ _ i (ix3 ⟨0, by decide⟩ ⟨(i 1 : ℕ) - 112, by omega⟩ ⟨(i 2 : ℕ), h2⟩) (fun a => by
    match a with
    | ⟨0, _⟩ => show (i 0 : ℕ) = 0 + 0 * 1; omega
    | ⟨1, _⟩ => show (i 1 : ℕ) = 112 + ((i 1 : ℕ) - 112) * 1; omega
    | ⟨2, _⟩ => show (i 2 : ℕ) = 0 + (i 2 : ℕ) * 1; omega), v_raw]
  congr 1
  show 112 + ((i 1 : ℕ) - 112) = _
  omega

/-- The queries by block, row, head, group and lane. -/
theorem q_at (i : S1x65x128x4x8x64.Idx) (h : 112 ≤ 128 * (i 1 : ℕ) + (i 2 : ℕ)) :
    val_main_v8 A i = ent A (128 * (i 1 : ℕ) + (i 2 : ℕ)) (8192 + 64 * (8 * (i 3 : ℕ) + (i 4 : ℕ)) + (i 5 : ℕ)) := by
  have h0 : (i 0 : ℕ) < 1 := (i 0).isLt
  have h1 : (i 1 : ℕ) < 65 := (i 1).isLt
  have h2 : (i 2 : ℕ) < 128 := (i 2).isLt
  have h3 : (i 3 : ℕ) < 4 := (i 3).isLt
  have h4 : (i 4 : ℕ) < 8 := (i 4).isLt
  have h5 : (i 5 : ℕ) < 64 := (i 5).isLt
  unfold val_main_v8
  rw [shapeCast_apply _ _ i (ix3 ⟨0, by decide⟩ ⟨128 * (i 1 : ℕ) + (i 2 : ℕ), by omega⟩ ⟨64 * (8 * (i 3 : ℕ) + (i 4 : ℕ)) + (i 5 : ℕ), by omega⟩) (by
    rw [Shape.rowMajor_val_three, Shape.rowMajor_val_six]
    show (0 * 8320 + (128 * (i 1 : ℕ) + (i 2 : ℕ))) * 2048 + (64 * (8 * (i 3 : ℕ) + (i 4 : ℕ)) + (i 5 : ℕ))
      = ((((((i 0 : ℕ) * 65 + (i 1 : ℕ)) * 128 + (i 2 : ℕ)) * 4 + (i 3 : ℕ)) * 8 + (i 4 : ℕ)) * 64 + (i 5 : ℕ))
    omega), q_pad A _ h]
  congr 1
  show 8192 + (64 * (8 * (i 3 : ℕ) + (i 4 : ℕ)) + (i 5 : ℕ)) = _
  omega

/-- The keys by block, row, head and lane. -/
theorem k_at (i : S1x65x128x4x64.Idx) (h : 112 ≤ 128 * (i 1 : ℕ) + (i 2 : ℕ)) :
    val_main_v9 A i = ent A (128 * (i 1 : ℕ) + (i 2 : ℕ)) (10240 + 64 * (i 3 : ℕ) + (i 4 : ℕ)) := by
  have h0 : (i 0 : ℕ) < 1 := (i 0).isLt
  have h1 : (i 1 : ℕ) < 65 := (i 1).isLt
  have h2 : (i 2 : ℕ) < 128 := (i 2).isLt
  have h3 : (i 3 : ℕ) < 4 := (i 3).isLt
  have h4 : (i 4 : ℕ) < 64 := (i 4).isLt
  have e1 : (idx_main_v9 i 1 : ℕ) = 128 * (i 1 : ℕ) + (i 2 : ℕ) := by
    show (((((i 0 : ℕ) * 65 + (i 1 : ℕ)) * 128 + (i 2 : ℕ)) * 4 + (i 3 : ℕ)) * 64 + (i 4 : ℕ)) / 256 % 8320 = _
    omega
  have e2 : (idx_main_v9 i 2 : ℕ) = 64 * (i 3 : ℕ) + (i 4 : ℕ) := by
    show (((((i 0 : ℕ) * 65 + (i 1 : ℕ)) * 128 + (i 2 : ℕ)) * 4 + (i 3 : ℕ)) * 64 + (i 4 : ℕ)) % 256 = _
    omega
  rw [val_main_v9_apply, k_pad A _ (by rw [e1]; exact h), e1, e2, Nat.add_assoc]

theorem v_at (i : S1x65x128x4x64.Idx) (h : 112 ≤ 128 * (i 1 : ℕ) + (i 2 : ℕ)) :
    val_main_v10 A i = ent A (128 * (i 1 : ℕ) + (i 2 : ℕ)) (10496 + 64 * (i 3 : ℕ) + (i 4 : ℕ)) := by
  have h0 : (i 0 : ℕ) < 1 := (i 0).isLt
  have h1 : (i 1 : ℕ) < 65 := (i 1).isLt
  have h2 : (i 2 : ℕ) < 128 := (i 2).isLt
  have h3 : (i 3 : ℕ) < 4 := (i 3).isLt
  have h4 : (i 4 : ℕ) < 64 := (i 4).isLt
  have e1 : (idx_main_v10 i 1 : ℕ) = 128 * (i 1 : ℕ) + (i 2 : ℕ) := by
    show (((((i 0 : ℕ) * 65 + (i 1 : ℕ)) * 128 + (i 2 : ℕ)) * 4 + (i 3 : ℕ)) * 64 + (i 4 : ℕ)) / 256 % 8320 = _
    omega
  have e2 : (idx_main_v10 i 2 : ℕ) = 64 * (i 3 : ℕ) + (i 4 : ℕ) := by
    show (((((i 0 : ℕ) * 65 + (i 1 : ℕ)) * 128 + (i 2 : ℕ)) * 4 + (i 3 : ℕ)) * 64 + (i 4 : ℕ)) % 256 = _
    omega
  rw [val_main_v10_apply, v_pad A _ (by rw [e1]; exact h), e1, e2, Nat.add_assoc]

section

variable {α : Type} (x : S1x65x128x4x64.Idx → α) (y : S_.Idx → α)

/-- A block of a band: the block before, then the block itself. -/
theorem band_lo (w : S1x65x128x4x64.Idx → α) (i : S1x65x256x4x64.Idx) (h : (i 2 : ℕ) < 128) :
    concatenate S1x65x256x4x64 2 [⟨S1x65x128x4x64, w⟩, ⟨S1x65x128x4x64, x⟩] concatenates_S1x65x128x4x64_S1x65x128x4x64_S1x65x256x4x64_d2 i
    = w (ix5 (i 0) (i 1) ⟨i 2, h⟩ (i 3) (i 4)) :=
  concatenate_apply_piece 2 [⟨S1x65x128x4x64, w⟩, ⟨S1x65x128x4x64, x⟩] _ i 0 Nat.zero_lt_two S1x65x128x4x64 w rfl rfl 0 rfl _ (fun b hb => by
    match b with
    | ⟨0, _⟩ => rfl
    | ⟨1, _⟩ => rfl
    | ⟨2, _⟩ => exact absurd rfl hb
    | ⟨3, _⟩ => rfl
    | ⟨4, _⟩ => rfl) (Nat.zero_add _)

theorem band_hi (w : S1x65x128x4x64.Idx → α) (i : S1x65x256x4x64.Idx) (h : 128 ≤ (i 2 : ℕ)) :
    concatenate S1x65x256x4x64 2 [⟨S1x65x128x4x64, w⟩, ⟨S1x65x128x4x64, x⟩] concatenates_S1x65x128x4x64_S1x65x128x4x64_S1x65x256x4x64_d2 i
    = x (ix5 (i 0) (i 1) ⟨(i 2 : ℕ) - 128, by have : (i 2 : ℕ) < 256 := (i 2).isLt; omega⟩ (i 3) (i 4)) :=
  concatenate_apply_piece 2 [⟨S1x65x128x4x64, w⟩, ⟨S1x65x128x4x64, x⟩] _ i 1 Nat.one_lt_two S1x65x128x4x64 x rfl rfl 128 rfl _ (fun b hb => by
    match b with
    | ⟨0, _⟩ => rfl
    | ⟨1, _⟩ => rfl
    | ⟨2, _⟩ => exact absurd rfl hb
    | ⟨3, _⟩ => rfl
    | ⟨4, _⟩ => rfl) (by show 128 + ((i 2 : ℕ) - 128) = (i 2 : ℕ); omega)

theorem shift_at (i : S1x66x128x4x64.Idx) (h : 1 ≤ (i 1 : ℕ)) :
    pad S1x66x128x4x64 ![0, 1, 0, 0, 0] ![0, 0, 0, 0, 0] ![0, 0, 0, 0, 0] x y pads_S1x65x128x4x64_S1x66x128x4x64_000_100_000_000_000 h_S_ i
    = x (ix5 (i 0) ⟨(i 1 : ℕ) - 1, by have : (i 1 : ℕ) < 66 := (i 1).isLt; omega⟩ (i 2) (i 3) (i 4)) :=
  pad_apply_of_inside _ _ _ _ _ _ _ i _ (fun a => by
    match a with
    | ⟨0, _⟩ => show (i 0 : ℕ) = 0 + (i 0 : ℕ) * 1; omega
    | ⟨1, _⟩ => show (i 1 : ℕ) = 1 + ((i 1 : ℕ) - 1) * 1; omega
    | ⟨2, _⟩ => show (i 2 : ℕ) = 0 + (i 2 : ℕ) * 1; omega
    | ⟨3, _⟩ => show (i 3 : ℕ) = 0 + (i 3 : ℕ) * 1; omega
    | ⟨4, _⟩ => show (i 4 : ℕ) = 0 + (i 4 : ℕ) * 1; omega)

end

/-- A band's key in its own block, and in the block before. -/
theorem kband_hi (i : S1x65x256x4x64.Idx) (h : 128 ≤ (i 2 : ℕ)) (h1 : 1 ≤ (i 1 : ℕ)) :
    val_main_v13 A i = ent A (128 * (i 1 : ℕ) + ((i 2 : ℕ) - 128)) (10240 + 64 * (i 3 : ℕ) + (i 4 : ℕ)) := by
  unfold val_main_v13
  rw [band_hi _ _ i h]
  exact k_at A _ (by show 112 ≤ 128 * (i 1 : ℕ) + ((i 2 : ℕ) - 128); omega)

theorem kband_lo (i : S1x65x256x4x64.Idx) (h : (i 2 : ℕ) < 128) (h1 : 2 ≤ (i 1 : ℕ)) :
    val_main_v13 A i = ent A (128 * ((i 1 : ℕ) - 1) + (i 2 : ℕ)) (10240 + 64 * (i 3 : ℕ) + (i 4 : ℕ)) := by
  unfold val_main_v13
  rw [band_lo _ _ i h, val_main_v12_apply]
  unfold val_main_v11
  rw [shift_at _ _ _ (by show 1 ≤ (i 1 : ℕ); omega)]
  exact k_at A _ (by show 112 ≤ 128 * ((i 1 : ℕ) - 1) + (i 2 : ℕ); omega)

theorem vband_hi (i : S1x65x256x4x64.Idx) (h : 128 ≤ (i 2 : ℕ)) (h1 : 1 ≤ (i 1 : ℕ)) :
    val_main_v16 A i = ent A (128 * (i 1 : ℕ) + ((i 2 : ℕ) - 128)) (10496 + 64 * (i 3 : ℕ) + (i 4 : ℕ)) := by
  unfold val_main_v16
  rw [band_hi _ _ i h]
  exact v_at A _ (by show 112 ≤ 128 * (i 1 : ℕ) + ((i 2 : ℕ) - 128); omega)

theorem vband_lo (i : S1x65x256x4x64.Idx) (h : (i 2 : ℕ) < 128) (h1 : 2 ≤ (i 1 : ℕ)) :
    val_main_v16 A i = ent A (128 * ((i 1 : ℕ) - 1) + (i 2 : ℕ)) (10496 + 64 * (i 3 : ℕ) + (i 4 : ℕ)) := by
  unfold val_main_v16
  rw [band_lo _ _ i h, val_main_v15_apply]
  unfold val_main_v14
  rw [shift_at _ _ _ (by show 1 ≤ (i 1 : ℕ); omega)]
  exact v_at A _ (by show 112 ≤ 128 * ((i 1 : ℕ) - 1) + (i 2 : ℕ); omega)

/-- The global keys and values. -/
theorem kmeta (i : S1x16x4x64.Idx) : val_main_v18 A i = ent A (112 + (i 1 : ℕ)) (10240 + 64 * (i 2 : ℕ) + (i 3 : ℕ)) := by
  have h0 : (i 0 : ℕ) < 1 := (i 0).isLt
  have h1 : (i 1 : ℕ) < 16 := (i 1).isLt
  have h2 : (i 2 : ℕ) < 4 := (i 2).isLt
  have h3 : (i 3 : ℕ) < 64 := (i 3).isLt
  have e1 : (idx_main_v17 (idx_main_v18 i) 1 : ℕ) = i 1 := by
    show ((((i 0 : ℕ) * 16 + (i 1 : ℕ)) * 4 + (i 2 : ℕ)) * 64 + (i 3 : ℕ)) / 256 % 16 = _
    omega
  have e2 : (idx_main_v17 (idx_main_v18 i) 2 : ℕ) = 64 * (i 2 : ℕ) + (i 3 : ℕ) := by
    show ((((i 0 : ℕ) * 16 + (i 1 : ℕ)) * 4 + (i 2 : ℕ)) * 64 + (i 3 : ℕ)) % 256 = _
    omega
  rw [val_main_v18_apply, val_main_v17_apply, k_raw, e1, e2, Nat.add_assoc 10240]

theorem vmeta (i : S1x16x4x64.Idx) : val_main_v20 A i = ent A (112 + (i 1 : ℕ)) (10496 + 64 * (i 2 : ℕ) + (i 3 : ℕ)) := by
  have h0 : (i 0 : ℕ) < 1 := (i 0).isLt
  have h1 : (i 1 : ℕ) < 16 := (i 1).isLt
  have h2 : (i 2 : ℕ) < 4 := (i 2).isLt
  have h3 : (i 3 : ℕ) < 64 := (i 3).isLt
  have e1 : (idx_main_v19 (idx_main_v20 i) 1 : ℕ) = i 1 := by
    show ((((i 0 : ℕ) * 16 + (i 1 : ℕ)) * 4 + (i 2 : ℕ)) * 64 + (i 3 : ℕ)) / 256 % 16 = _
    omega
  have e2 : (idx_main_v19 (idx_main_v20 i) 2 : ℕ) = 64 * (i 2 : ℕ) + (i 3 : ℕ) := by
    show ((((i 0 : ℕ) * 16 + (i 1 : ℕ)) * 4 + (i 2 : ℕ)) * 64 + (i 3 : ℕ)) % 256 = _
    omega
  rw [val_main_v20_apply, val_main_v19_apply, v_raw, e1, e2, Nat.add_assoc 10496]

end Cert.SwaRefIdeal.Att

end
-- ==== Proof.SwaRefMask.lean ====
module

public import proofs.«01_k».proof.Proof.Gen.SwaRefIdeal.Read
public import proofs.«01_k».proof.Proof.SwaSpec
public import Idealize.ShloMosaic.Lib.WordCmp

/-! Which keys a row of the reference's attention sees. -/

@[expose] public section

set_option maxRecDepth 16384

noncomputable section

open Idealize.ShloMosaic Idealize.ShloMosaic.TcCoe Idealize.SL.Sem

namespace Cert.SwaRefIdeal.Att

open Cert.SwaRefIdeal Cert.SwaRefIdeal.Gen Cert.SwaRefIdeal.Read Cert.SwaIdeal.Att

theorem add_word (a b : ℕ) : IntOp.addi (BitVec.ofNat 32 a) (BitVec.ofNat 32 b) = BitVec.ofNat 32 (a + b) := (BitVec.ofNat_add a b).symm

theorem row_start : ∀ n : Fin 65, IntOp.muli (BitVec.ofNat 32 n) 128#32 = BitVec.ofNat 32 (128 * n) := by decide +kernel

theorem key_start : ∀ n : Fin 65, IntOp.muli (IntOp.subi (BitVec.ofNat 32 n) 1#32) 128#32 = BitVec.ofNat 32 (if 1 ≤ (n : ℕ) then 128 * (n - 1) else 4294967168) := by decide +kernel

theorem early : ∀ k : Fin 256, IntOp.cmpi CmpIPredicate.sge (BitVec.ofNat 32 (4294967168 + k)) 128#32 = 0#1 := by decide +kernel

theorem and_word (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem and_zero (x : BitVec 1) : IntOp.andi x 0#1 = 0#1 := by
  simp [IntOp.andi]

theorem zero_and (x : BitVec 1) : IntOp.andi 0#1 x = 0#1 := by
  simp [IntOp.andi]

theorem sub_word (a b : ℕ) (h : a ≤ b) (hb : b < 2 ^ 31) : IntOp.subi (BitVec.ofNat 32 b) (BitVec.ofNat 32 a) = BitVec.ofNat 32 (b - a) := by
  apply BitVec.eq_of_toNat_eq
  show (BitVec.ofNat 32 b - BitVec.ofNat 32 a).toNat = _
  rw [BitVec.toNat_sub, BitVec.toNat_ofNat, BitVec.toNat_ofNat, BitVec.toNat_ofNat]
  omega

/-- The word of a truth value is one exactly when it holds. -/
theorem ofBool_one_iff (b : Bool) : BitVec.ofBool b = 1#1 ↔ b = true := by
  cases b <;> decide

/-- The reference's band of keys. -/
theorem band_ok (i : S65x128x256.Idx) : val_main_v63 (F := Ideal) i = 1#1
    ↔ (2 ≤ (i 0 : ℕ) ∧ (i 2 : ℕ) < 128 ∧ (i 1 : ℕ) < i 2) ∨ (1 ≤ (i 0 : ℕ) ∧ 128 ≤ (i 2 : ℕ) ∧ (i 2 : ℕ) - 128 ≤ i 1) := by
  have h0 : (i 0 : ℕ) < 65 := (i 0).isLt
  have h1 : (i 1 : ℕ) < 128 := (i 1).isLt
  have h2 : (i 2 : ℕ) < 256 := (i 2).isLt
  have e : val_main_v63 (F := Ideal) i = IntOp.andi (IntOp.andi
      (IntOp.cmpi .sle (IntOp.addi (IntOp.muli (IntOp.subi (BitVec.ofNat 32 (i 0)) 1#32) 128#32) (BitVec.ofNat 32 (i 2))) (IntOp.addi (IntOp.muli (BitVec.ofNat 32 (i 0)) 128#32) (BitVec.ofNat 32 (i 1))))
      (IntOp.cmpi .slt (IntOp.subi (IntOp.addi (IntOp.muli (BitVec.ofNat 32 (i 0)) 128#32) (BitVec.ofNat 32 (i 1))) (IntOp.addi (IntOp.muli (IntOp.subi (BitVec.ofNat 32 (i 0)) 1#32) 128#32) (BitVec.ofNat 32 (i 2)))) 128#32))
      (IntOp.cmpi .sge (IntOp.addi (IntOp.muli (IntOp.subi (BitVec.ofNat 32 (i 0)) 1#32) 128#32) (BitVec.ofNat 32 (i 2))) 128#32) := by
    simp only [val_main_v63_apply, val_main_v62_apply, val_main_v61_apply, val_main_v60_apply, val_main_v59_apply, val_main_v58_apply, val_main_v57_apply, val_main_v56_apply, val_main_v55_apply,
      val_main_v54_apply, val_main_v53_apply, val_main_v52_apply, val_main_v51_apply, val_main_v50_apply, val_main_v49_apply, val_main_v48_apply, val_main_v47_apply, val_main_v46_apply,
      val_main_v45_apply, val_main_v44_apply, val_main_v43_apply, val_main_v42_apply, val_main_v41_apply, val_main_v40_apply, val_main_v39_apply, val_main_v38_apply, val_main_v37_apply,
      val_main_v36_apply, val_main_v35_apply, val_main_v34_apply, val_main_v33_apply, val_main_v32_apply, val_main_v31_apply, val_main_v30_apply, val_main_v29_apply,
      val_main_c_5_apply, val_main_c_6_apply, val_main_c_7_apply, val_main_c_8_apply, val_main_c_9_apply]
    try rfl
  rw [e, row_start ⟨i 0, h0⟩, key_start ⟨i 0, h0⟩]
  dsimp only
  rw [add_word, add_word]
  by_cases hn : 1 ≤ (i 0 : ℕ)
  · rw [if_pos hn, WordCmp.cmpi_sle_ofNat (by omega) (by omega), WordCmp.cmpi_sge_ofNat (by omega) (by omega)]
    by_cases hle : 128 * ((i 0 : ℕ) - 1) + (i 2 : ℕ) ≤ 128 * (i 0 : ℕ) + (i 1 : ℕ)
    · rw [sub_word _ _ hle (by omega), WordCmp.cmpi_slt_ofNat (by omega) (by omega), and_word, and_word]
      rw [ofBool_one_iff, decide_eq_true_iff]
      omega
    · rw [decide_eq_false hle]
      show IntOp.andi (IntOp.andi 0#1 _) _ = 1#1 ↔ _
      rw [zero_and, zero_and]
      refine iff_of_false (by decide) ?_
      omega
  · rw [if_neg hn, early ⟨i 2, h2⟩, and_zero]
    refine iff_of_false (by decide) ?_
    omega

theorem or_word (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

theorem first_meta : ∀ (r : Fin 128) (k : Fin 16), IntOp.ori (IntOp.cmpi CmpIPredicate.sge (BitVec.ofNat 32 r) 128#32)
    (IntOp.cmpi CmpIPredicate.sge (IntOp.subi (BitVec.ofNat 32 r) 112#32) (BitVec.ofNat 32 k)) = 1#1 ↔ 112 + (k : ℕ) ≤ r := by decide +kernel

theorem one_or (x : BitVec 1) : IntOp.ori 1#1 x = 1#1 := by
  revert x
  decide

/-- The global keys. -/
theorem meta_ok (i : S65x128x16.Idx) : val_main_v74 (F := Ideal) i = 1#1 ↔ 1 ≤ (i 0 : ℕ) ∨ 112 + (i 2 : ℕ) ≤ i 1 := by
  have h0 : (i 0 : ℕ) < 65 := (i 0).isLt
  have h1 : (i 1 : ℕ) < 128 := (i 1).isLt
  have h2 : (i 2 : ℕ) < 16 := (i 2).isLt
  have e : val_main_v74 (F := Ideal) i = IntOp.ori (IntOp.cmpi .sge (IntOp.addi (IntOp.muli (BitVec.ofNat 32 (i 0)) 128#32) (BitVec.ofNat 32 (i 1))) 128#32)
      (IntOp.cmpi .sge (IntOp.subi (IntOp.addi (IntOp.muli (BitVec.ofNat 32 (i 0)) 128#32) (BitVec.ofNat 32 (i 1))) 112#32) (BitVec.ofNat 32 (i 2))) := by
    simp only [val_main_v74_apply, val_main_v73_apply, val_main_v72_apply, val_main_v71_apply, val_main_v70_apply, val_main_v69_apply, val_main_v68_apply, val_main_v67_apply, val_main_v66_apply,
      val_main_v65_apply, val_main_v64_apply, val_main_v49_apply, val_main_v37_apply, val_main_v36_apply, val_main_v35_apply, val_main_v34_apply, val_main_v33_apply, val_main_v32_apply,
      val_main_v31_apply, val_main_v30_apply, val_main_v29_apply, val_main_c_5_apply, val_main_c_10_apply, val_main_c_11_apply]
    try rfl
  rw [e, row_start ⟨i 0, h0⟩]
  dsimp only
  rw [add_word]
  by_cases hn : 1 ≤ (i 0 : ℕ)
  · rw [WordCmp.cmpi_sge_ofNat (by omega) (by omega), decide_eq_true (show 128 ≤ 128 * (i 0 : ℕ) + (i 1 : ℕ) by omega)]
    show IntOp.ori 1#1 _ = 1#1 ↔ _
    rw [one_or]
    exact iff_of_true rfl (Or.inl hn)
  · rw [show 128 * (i 0 : ℕ) + (i 1 : ℕ) = (i 1 : ℕ) by omega]
    refine (first_meta ⟨i 1, h1⟩ ⟨i 2, h2⟩).trans ?_
    dsimp only
    omega

end Cert.SwaRefIdeal.Att

end
-- ==== Proof.SwaRef.lean ====
module

public import proofs.«01_k».proof.Proof.SwaRefIn
public import proofs.«01_k».proof.Proof.SwaRefMask

/-! The reference's attention, element by element. -/

@[expose] public section

set_option maxRecDepth 16384

noncomputable section

open Idealize.ShloMosaic Idealize.ShloMosaic.TcCoe Idealize.SL.Sem

namespace Cert.SwaRefIdeal.Att

open Cert.SwaRefIdeal Cert.SwaRefIdeal.Gen Cert.SwaRefIdeal.Read Cert.SwaIdeal.Att

variable (A : (⟨S8320x10752, .f32⟩ : BufTy).Contents (Elt Ideal)) (S : (⟨S32, .f32⟩ : BufTy).Contents (Elt Ideal))

/-- A selection, as a case split. -/
theorem select_if {α : Type} (c : BitVec 1) (a b : α) : Scalar.select c a b = if c = 1#1 then a else b := rfl

/-- The sinks, spread over the rows. -/
theorem sink_at (i : S1x65x4x8x128x1.Idx) : val_main_v76 S i = sinkAt S (8 * (i 2 : ℕ) + (i 3 : ℕ)) := by
  have h2 : (i 2 : ℕ) < 4 := (i 2).isLt
  have h3 : (i 3 : ℕ) < 8 := (i 3).isLt
  rw [val_main_v76_apply]
  unfold val_main_v75 sinkAt
  rw [dif_pos (show 8 * (i 2 : ℕ) + (i 3 : ℕ) < 32 by omega)]
  exact shapeCast_apply _ _ _ _ (by
    rw [Shape.rowMajor_val_one, Shape.rowMajor_val_six]
    show 8 * (i 2 : ℕ) + (i 3 : ℕ) = (((((0 * 1 + 0) * 4 + (i 2 : ℕ)) * 8 + (i 3 : ℕ)) * 1 + 0) * 1 + 0)
    omega)

/-- A row's scores of the global keys. -/
theorem meta_score (i : S1x65x4x8x128x16.Idx) : val_main_v78 A i = metaL A (i 1) (i 4) (8 * (i 2 : ℕ) + (i 3 : ℕ)) (i 5) := by
  have h3 : (i 3 : ℕ) < 8 := (i 3).isLt
  rw [val_main_v78_apply, val_main_call5_v1_apply, val_main_v77_apply, val_main_call5_v2_apply, val_main_call5_v0_apply, val_main_cst_12_apply, select_if]
  unfold metaL
  refine (if_congr (meta_ok _) rfl rfl).trans ?_
  show (if 1 ≤ (i 1 : ℕ) ∨ 112 + (i 5 : ℕ) ≤ (i 4 : ℕ) then _ else _) = _
  split_ifs with h
  · rw [val_main_v24_apply, val_main_v22_apply, val_main_v21_apply, val_main_v23_apply, val_main_cst_apply]
    unfold dotAt
    show (∑ k : Fin 64, _) * Ideal.ofBits .f32 1040187392#32 = _
    rw [eighth_word]
    refine congrArg (· * _) (Finset.sum_congr rfl fun d _ => ?_)
    rw [kmeta, q_at A _ (by show 112 ≤ 128 * (i 1 : ℕ) + (i 4 : ℕ); omega), mul_comm]
    rw [show (8 * (i 2 : ℕ) + (i 3 : ℕ)) / 8 = i 2 by omega]
  · exact bot_word

/-- A row's scores of the band. -/
theorem band_score (i : S1x65x4x8x128x256.Idx) : val_main_v80 A i
    = if h : (i 5 : ℕ) < 128 then prevL A (i 1) (i 4) (8 * (i 2 : ℕ) + (i 3 : ℕ)) ⟨i 5, h⟩
      else curL A (i 1) (i 4) (8 * (i 2 : ℕ) + (i 3 : ℕ)) ⟨(i 5 : ℕ) - 128, by have : (i 5 : ℕ) < 256 := (i 5).isLt; omega⟩ := by
  have h3 : (i 3 : ℕ) < 8 := (i 3).isLt
  have h5 : (i 5 : ℕ) < 256 := (i 5).isLt
  rw [val_main_v80_apply, val_main_call6_v1_apply, val_main_v79_apply, val_main_call6_v2_apply, val_main_call6_v0_apply, val_main_cst_13_apply, select_if]
  refine (if_congr (band_ok _) rfl rfl).trans ?_
  show (if (2 ≤ (i 1 : ℕ) ∧ (i 5 : ℕ) < 128 ∧ (i 4 : ℕ) < i 5) ∨ (1 ≤ (i 1 : ℕ) ∧ 128 ≤ (i 5 : ℕ) ∧ (i 5 : ℕ) - 128 ≤ i 4) then _ else _) = _
  have e : (8 * (i 2 : ℕ) + (i 3 : ℕ)) / 8 = i 2 := by omega
  have dot : ∀ (J : ℕ) (hq : 112 ≤ 128 * (i 1 : ℕ) + (i 4 : ℕ)) (hk : ∀ d : Fin 64, val_main_v13 A (lidx_main_v25 (idx_main_v26 i) d) = ent A J (10240 + 64 * (i 2 : ℕ) + d)),
      val_main_v28 A i = dotAt A (128 * (i 1 : ℕ) + (i 4 : ℕ)) J (8 * (i 2 : ℕ) + (i 3 : ℕ)) := fun J hq hk => by
    rw [val_main_v28_apply, val_main_v26_apply, val_main_v25_apply, val_main_v27_apply, val_main_cst_4_apply]
    unfold dotAt
    show (∑ k : Fin 64, _) * Ideal.ofBits .f32 1040187392#32 = _
    rw [eighth_word]
    refine congrArg (· * _) (Finset.sum_congr rfl fun d _ => ?_)
    rw [hk, q_at A _ hq, mul_comm, e]
  by_cases h : (i 5 : ℕ) < 128
  · rw [dif_pos h]
    unfold prevL
    refine (if_congr (Q := 2 ≤ (i 1 : ℕ) ∧ (i 4 : ℕ) < (i 5 : ℕ)) (by omega) rfl rfl).trans ?_
    show (if 2 ≤ (i 1 : ℕ) ∧ (i 4 : ℕ) < (i 5 : ℕ) then _ else _) = if 2 ≤ (i 1 : ℕ) ∧ (i 4 : ℕ) < (i 5 : ℕ) then _ else _
    split_ifs with hv
    · exact dot _ (by omega) fun d => kband_lo A _ h hv.1
    · exact bot_word
  · rw [dif_neg h]
    unfold curL
    refine (if_congr (Q := 1 ≤ (i 1 : ℕ) ∧ (i 5 : ℕ) - 128 ≤ (i 4 : ℕ)) (by omega) rfl rfl).trans ?_
    split_ifs with hv
    · exact dot _ (by omega) fun d => kband_hi A _ (by show 128 ≤ (i 5 : ℕ); omega) hv.1
    · exact bot_word

section

variable (n : Fin 65) (h : Fin 4) (g : Fin 8) (q : Fin 128)

/-- The index of a row's score. -/
def spot (k : Fin 273) : S1x65x4x8x128x273.Idx := ix6 0 n h g q k

/-- A row of scores. -/
def row (k : Fin 273) : EReal := val_main_v81 A S (spot n h g q k)

theorem piece_meta (w : S1x65x4x8x128x16.Idx → EReal) (x : S1x65x4x8x128x256.Idx → EReal) (y : S1x65x4x8x128x1.Idx → EReal) (k : Fin 16) :
    concatenate S1x65x4x8x128x273 5 [⟨S1x65x4x8x128x16, w⟩, ⟨S1x65x4x8x128x256, x⟩, ⟨S1x65x4x8x128x1, y⟩]
      concatenates_S1x65x4x8x128x16_S1x65x4x8x128x256_S1x65x4x8x128x1_S1x65x4x8x128x273_d5 (spot n h g q ⟨k, by omega⟩) = w (ix6 0 n h g q k) :=
  concatenate_apply_piece 5 [⟨S1x65x4x8x128x16, w⟩, ⟨S1x65x4x8x128x256, x⟩, ⟨S1x65x4x8x128x1, y⟩] _ (spot n h g q ⟨k, by omega⟩) 0 (Nat.succ_pos 2) S1x65x4x8x128x16 w rfl rfl 0 rfl (ix6 0 n h g q k) (fun b hb => by
    match b with
    | ⟨0, _⟩ => rfl
    | ⟨1, _⟩ => rfl
    | ⟨2, _⟩ => rfl
    | ⟨3, _⟩ => rfl
    | ⟨4, _⟩ => rfl
    | ⟨5, _⟩ => exact absurd rfl hb) (Nat.zero_add _)

theorem piece_band (w : S1x65x4x8x128x16.Idx → EReal) (x : S1x65x4x8x128x256.Idx → EReal) (y : S1x65x4x8x128x1.Idx → EReal) (k : Fin 256) :
    concatenate S1x65x4x8x128x273 5 [⟨S1x65x4x8x128x16, w⟩, ⟨S1x65x4x8x128x256, x⟩, ⟨S1x65x4x8x128x1, y⟩]
      concatenates_S1x65x4x8x128x16_S1x65x4x8x128x256_S1x65x4x8x128x1_S1x65x4x8x128x273_d5 (spot n h g q ⟨16 + k, by omega⟩) = x (ix6 0 n h g q k) :=
  concatenate_apply_piece 5 [⟨S1x65x4x8x128x16, w⟩, ⟨S1x65x4x8x128x256, x⟩, ⟨S1x65x4x8x128x1, y⟩] _ (spot n h g q ⟨16 + k, by omega⟩) 1 (Nat.succ_lt_succ (Nat.succ_pos 1)) S1x65x4x8x128x256 x rfl rfl 16 rfl (ix6 0 n h g q k) (fun b hb => by
    match b with
    | ⟨0, _⟩ => rfl
    | ⟨1, _⟩ => rfl
    | ⟨2, _⟩ => rfl
    | ⟨3, _⟩ => rfl
    | ⟨4, _⟩ => rfl
    | ⟨5, _⟩ => exact absurd rfl hb) rfl

theorem piece_sink (w : S1x65x4x8x128x16.Idx → EReal) (x : S1x65x4x8x128x256.Idx → EReal) (y : S1x65x4x8x128x1.Idx → EReal) :
    concatenate S1x65x4x8x128x273 5 [⟨S1x65x4x8x128x16, w⟩, ⟨S1x65x4x8x128x256, x⟩, ⟨S1x65x4x8x128x1, y⟩]
      concatenates_S1x65x4x8x128x16_S1x65x4x8x128x256_S1x65x4x8x128x1_S1x65x4x8x128x273_d5 (spot n h g q ⟨272, by omega⟩) = y (ix6 0 n h g q 0) :=
  concatenate_apply_piece 5 [⟨S1x65x4x8x128x16, w⟩, ⟨S1x65x4x8x128x256, x⟩, ⟨S1x65x4x8x128x1, y⟩] _ (spot n h g q ⟨272, by omega⟩) 2 (Nat.lt_succ_self 2) S1x65x4x8x128x1 y rfl rfl 272 rfl (ix6 0 n h g q 0) (fun b hb => by
    match b with
    | ⟨0, _⟩ => rfl
    | ⟨1, _⟩ => rfl
    | ⟨2, _⟩ => rfl
    | ⟨3, _⟩ => rfl
    | ⟨4, _⟩ => rfl
    | ⟨5, _⟩ => exact absurd rfl hb) rfl

theorem row_meta (k : Fin 16) : row A S n h g q ⟨k, by omega⟩ = metaL A n q (8 * (h : ℕ) + g) k := by
  unfold row val_main_v81
  exact (piece_meta n h g q _ _ _ k).trans (meta_score A _)

theorem row_band (k : Fin 256) : row A S n h g q ⟨16 + k, by omega⟩ = val_main_v80 A (ix6 0 n h g q k) := by
  unfold row val_main_v81
  exact piece_band n h g q _ _ _ k

theorem row_prev (k : Fin 128) : row A S n h g q ⟨16 + k, by omega⟩ = prevL A n q (8 * (h : ℕ) + g) k := by
  refine (row_band A S n h g q ⟨k, by omega⟩).trans ?_
  rw [band_score]
  exact dif_pos k.isLt

theorem row_cur (k : Fin 128) : row A S n h g q ⟨144 + k, by omega⟩ = curL A n q (8 * (h : ℕ) + g) k := by
  refine (congrArg (row A S n h g q) (Fin.ext (show 144 + (k : ℕ) = 16 + (128 + k) by omega))).trans ((row_band A S n h g q ⟨128 + k, by omega⟩).trans ?_)
  rw [band_score]
  refine (dif_neg (show ¬ 128 + (k : ℕ) < 128 by omega)).trans ?_
  exact congrArg (curL A n q (8 * (h : ℕ) + g)) (Fin.ext (show 128 + (k : ℕ) - 128 = k by omega))

theorem row_sink : row A S n h g q ⟨272, by omega⟩ = sinkAt S (8 * (h : ℕ) + g) := by
  unfold row val_main_v81
  exact (piece_sink n h g q _ _ _).trans (sink_at S _)

/-- A row's largest score. -/
theorem top_eq (j : S1x65x4x8x128.Idx) (h1 : j 1 = n) (h2 : j 2 = h) (h3 : j 3 = g) (h4 : j 4 = q) : val_main_v84 A S j = Finset.univ.sup (row A S n h g q) := by
  have h0 : (j 0 : ℕ) < 1 := (j 0).isLt
  subst h1 h2 h3 h4
  rw [val_main_v84_apply, val_main_v83_apply, val_main_cst_15_apply]
  unfold val_main_v82 val_main_cst_14
  have hr : S1x65x4x8x128x273.Reduces [5] S1x65x4x8x128 := by decide
  have e := hostReduce_maximumf_eq_multiReduction (val_main_v81 A S) 4286578688#32 reducesTo_S1x65x4x8x128x273_S1x65x4x8x128_d5 h_S_ hr (.inl rfl) rfl
  refine (congrArg (max (Ideal.ofBits .f32 4286578688#32)) ((congrFun e j).trans (Ideal.multiReduction_maximumf_single ..))).trans ?_
  show max (Ideal.ofBits .f32 4286578688#32) (Finset.univ.fold max (Ideal.ofBits .f32 4286578688#32) _) = _
  rw [bot_word, max_eq_right bot_le]
  show Finset.univ.sup _ = _
  refine congrArg (Finset.univ.sup) (funext fun k => ?_)
  unfold row spot
  exact congrArg (val_main_v81 A S) (funext fun a => Fin.ext (by match a with | ⟨0, _⟩ => show (j 0 : ℕ) = 0; omega | ⟨1, _⟩ => rfl | ⟨2, _⟩ => rfl | ⟨3, _⟩ => rfl | ⟨4, _⟩ => rfl | ⟨5, _⟩ => rfl))

/-- A weight before the division. -/
theorem weight_eq (i : S1x65x4x8x128x273.Idx) (k : Fin 273) (h1 : i 1 = n) (h2 : i 2 = h) (h3 : i 3 = g) (h4 : i 4 = q) (h5 : i 5 = k) :
    val_main_v88 A S i = Ideal.exp (row A S n h g q k - Finset.univ.sup (row A S n h g q)) := by
  have h0 : (i 0 : ℕ) < 1 := (i 0).isLt
  subst h1 h2 h3 h4 h5
  rw [val_main_v88_apply, val_main_v87_apply, val_main_v86_apply, val_main_v85_apply, top_eq A S (i 1) (i 2) (i 3) (i 4) _ rfl rfl rfl rfl]
  unfold row spot
  have ei : i = (ix6 0 (i 1) (i 2) (i 3) (i 4) (i 5) : S1x65x4x8x128x273.Idx) :=
    funext fun a => Fin.ext (by match a with | ⟨0, _⟩ => show (i 0 : ℕ) = 0; omega | ⟨1, _⟩ => rfl | ⟨2, _⟩ => rfl | ⟨3, _⟩ => rfl | ⟨4, _⟩ => rfl | ⟨5, _⟩ => rfl)
  exact congrArg (fun z => Ideal.exp (val_main_v81 A S z - _)) ei

/-- A weight. -/
theorem prob_eq (i : S1x65x4x8x128x273.Idx) (k : Fin 273) (h1 : i 1 = n) (h2 : i 2 = h) (h3 : i 3 = g) (h4 : i 4 = q) (h5 : i 5 = k) : val_main_v92 A S i
    = Ideal.div (Ideal.exp (row A S n h g q k - Finset.univ.sup (row A S n h g q))) (∑ j, Ideal.exp (row A S n h g q j - Finset.univ.sup (row A S n h g q))) := by
  rw [val_main_v92_apply, val_main_v91_apply, val_main_v90_apply, val_main_v89_apply, val_main_cst_16_apply, weight_eq A S n h g q i k h1 h2 h3 h4 h5]
  show Ideal.div _ (Ideal.ofBits .f32 0#32 + _) = _
  rw [show Ideal.ofBits .f32 0#32 = (0 : EReal) by simp, zero_add]
  exact congrArg (Ideal.div _) (Finset.sum_congr rfl fun j _ => weight_eq A S n h g q _ j h1 h2 h3 h4 rfl)

end

/-- The reference's element is the attention's. -/
theorem ref_at (hA : Finite A) (hS : ∀ j, Real' (sinkAt S j)) (i : S1x65x128x4x8x64.Idx) :
    val_main_v99 A S i = spec A (sinkAt S (8 * (i 3 : ℕ) + (i 4 : ℕ))) (i 1) (i 2) (8 * (i 3 : ℕ) + (i 4 : ℕ)) (i 5) := by
  have h3 : (i 3 : ℕ) < 4 := (i 3).isLt
  have h4 : (i 4 : ℕ) < 8 := (i 4).isLt
  have e : (8 * (i 3 : ℕ) + (i 4 : ℕ)) / 8 = i 3 := by omega
  rw [val_main_v99_apply, val_main_v95_apply, val_main_v98_apply, val_main_v94_apply, val_main_v97_apply]
  simp only [val_main_v93_apply, val_main_v96_apply]
  refine (congrArg₂ (· + ·) (Finset.sum_congr rfl fun (k : Fin 16) _ => congrArg (val_main_v20 A (lidx_main_v94 (idx_main_v95 i) k) * ·) (prob_eq A S (i 1) (i 3) (i 4) (i 2) (idx_main_v93 (ridx_main_v94 (idx_main_v95 i) k)) ⟨k, by omega⟩ rfl rfl rfl rfl rfl))
    (Finset.sum_congr rfl fun (k : Fin 256) _ => congrArg (val_main_v16 A (lidx_main_v97 (idx_main_v98 i) k) * ·) (prob_eq A S (i 1) (i 3) (i 4) (i 2) (idx_main_v96 (ridx_main_v97 (idx_main_v98 i) k)) ⟨16 + k, by omega⟩ rfl rfl rfl rfl rfl))).trans ?_
  refine (att_divided (row A S (i 1) (i 3) (i 4) (i 2)) _ _ _ _ _ _ (row_meta A S _ _ _ _) (row_prev A S _ _ _ _) (row_cur A S _ _ _ _) (row_sink A S _ _ _ _)
    (spec_mass hA (hS _) (by omega))).trans ?_
  unfold spec
  refine att_congr (fun k => ?_) (fun k => ?_) (fun k => Or.inr ?_)
  · by_cases hv : 1 ≤ (i 1 : ℕ) ∧ (k : ℕ) ≤ (i 2 : ℕ)
    · refine Or.inr ((vband_hi A _ (by show 128 ≤ 128 + (k : ℕ); omega) hv.1).trans ?_)
      unfold valAt
      rw [e]
      show ent A (128 * (i 1 : ℕ) + (128 + (k : ℕ) - 128)) _ = _
      rw [Nat.add_sub_cancel_left]
    · exact Or.inl (if_neg hv)
  · by_cases hv : 2 ≤ (i 1 : ℕ) ∧ (i 2 : ℕ) < (k : ℕ)
    · refine Or.inr ((vband_lo A _ k.isLt hv.1).trans ?_)
      unfold valAt
      rw [e]
    · exact Or.inl (if_neg hv)
  · refine (vmeta A _).trans ?_
    unfold valAt
    rw [e]

/-- The reference's result, element by element. -/
theorem result (hA : Finite A) (hS : ∀ j, Real' (sinkAt S j)) (x : S8320x2048.Idx) : val_main_v101 A S x
    = spec A (sinkAt S ((x 1 : ℕ) / 64)) ((x 0 : ℕ) / 128) ((x 0 : ℕ) % 128) ((x 1 : ℕ) / 64) ((x 1 : ℕ) % 64) := by
  have h0 : (x 0 : ℕ) < 8320 := (x 0).isLt
  have h1 : (x 1 : ℕ) < 2048 := (x 1).isLt
  rw [val_main_v101_apply]
  unfold val_main_v100
  show shapeCast _ _ _ x = _
  rw [shapeCast_apply _ _ x (ix6 0 ⟨(x 0 : ℕ) / 128, by omega⟩ ⟨(x 0 : ℕ) % 128, by omega⟩ ⟨(x 1 : ℕ) / 512, by omega⟩ ⟨(x 1 : ℕ) / 64 % 8, by omega⟩ ⟨(x 1 : ℕ) % 64, by omega⟩) (by
    rw [Shape.rowMajor_val_two, Shape.rowMajor_val_six]
    show (((((0 * 65 + (x 0 : ℕ) / 128) * 128 + (x 0 : ℕ) % 128) * 4 + (x 1 : ℕ) / 512) * 8 + (x 1 : ℕ) / 64 % 8) * 64 + (x 1 : ℕ) % 64) = (x 0 : ℕ) * 2048 + (x 1 : ℕ)
    omega), ref_at A S hA hS]
  show spec A (sinkAt S (8 * ((x 1 : ℕ) / 512) + (x 1 : ℕ) / 64 % 8)) _ _ (8 * ((x 1 : ℕ) / 512) + (x 1 : ℕ) / 64 % 8) _ = _
  rw [show 8 * ((x 1 : ℕ) / 512) + (x 1 : ℕ) / 64 % 8 = (x 1 : ℕ) / 64 by omega]
  rfl

end Cert.SwaRefIdeal.Att

end
-- ==== Proof.SwaValueClaim.lean ====
module

public import proofs.«01_k».proof.Defs
public import proofs.«01_k».proof.Proof.Gen.SwaIdeal.Frame
public import proofs.«01_k».proof.Proof.Gen.SwaRefIdeal.Run
public import proofs.«01_k».proof.Proof.SwaFinal
public import proofs.«01_k».proof.Proof.SwaFinite
public import proofs.«01_k».proof.Proof.SwaRef
public import Idealize.ShloMosaic.Lib.Claim
public import Idealize.ShloMosaic.Lib.Quiescent

/-! The claim about the attention's value. -/

@[expose] public section

set_option maxRecDepth 16384

noncomputable section

open Idealize.ShloMosaic Idealize.SL.Sem

namespace Cert.Proof.Swa

/-- The reference runs and leaves its arguments, under the precondition. -/
theorem frame_ref_pre : Cert.quiescent_SwaRefIdeal_pre_qk_finite := fun m ρ _ =>
  (θ_run _ _ _).mono (fun r h => ⟨fun c => (h c).2, sem_eq_zero_of_no_sems (by decide) _⟩) (Cert.SwaRefIdeal.Value.run m ρ)

/-- The two results, on the same arguments. -/
theorem same (m : (ℓ : Loc Cert.SwaIdeal.nD Cert.SwaIdeal.τ Cert.SwaIdeal.sig) → Buf (Elt Ideal) ℓ) (hpre : Cert.Pre_SwaIdeal_qk_finite m) (c : Dev Cert.SwaIdeal.nD) :
    Cert.SwaRefIdeal.Read.val_main_v101 (F := Ideal) (Cert.SwaIdeal.Att.mat m c) (Cert.SwaIdeal.Att.snk m c)
    = (Cert.SwaIdeal.Gen.dats m 0 c).arrAt 8 Cert.SwaIdeal.cfg0.N := by
  have hA := Cert.SwaIdeal.Att.finite_of_pre _ _ (hpre c).1
  have hS := Cert.SwaIdeal.Att.sinks_of_pre _ _ (hpre c).2
  exact (funext fun x => Cert.SwaRefIdeal.Att.result _ _ hA hS x).trans (Cert.SwaIdeal.Att.final m c hA hS).symm

set_option maxHeartbeats 1600000 in
/-- The idealized kernel's results are the reference's. -/
theorem algebraic : Cert.algebraic_SwaIdeal_SwaRefIdeal_pre_qk_finite := by
  pair_intro
  · run_from Cert.SwaIdeal.Gen.run_main m g
  · run_from Cert.SwaRefIdeal.Value.run m' g'
    rw [Cert.SwaRefIdeal.Read.val_main_v101_eq, (hagree c).1, (hagree c).2]
    exact same m hpre c

end Cert.Proof.Swa

end
-- ==== Proof.ConvBuf.lean ====
module

public import Idealize.ShloMosaic.Lib.WritesUnit
public import Idealize.ShloMosaic.Lib.Pipeline.ValueKit

/-! The rows buffer of the short convolutions: 1048 rows, of which the first 8 hold the end of the tile before and the
other 1040 the tile itself. What a load of 1040 rows shifted back by a few reads, and what the buffer's first rows hold
after the tile's last rows were copied there. -/

@[expose] public section

set_option maxRecDepth 16384

noncomputable section

open Idealize.ShloMosaic

namespace Cert.ConvBuf

/-- The buffer, a tile, and the carried rows. -/
abbrev SB : Shape := ⟨2, ![1048, 256]⟩
/-- A tile's rows. -/
abbrev ST : Shape := ⟨2, ![1040, 256]⟩
/-- The carried rows. -/
abbrev SC : Shape := ⟨2, ![8, 256]⟩

variable {sig : RefSig} {κ : Kind} {sp : Space} {Val : EltTy → Type} {e : EltTy} [∀ e, Nonempty (Val e)]

/-- A load of 1040 rows from row `o` of the buffer, after the tile was stored from row 8: the tile's own row, or a carried
row. -/
theorem read_shift (v : View sig κ sp SB e) (f : v.ty.Contents Val) (o : ℕ)
    (inb8 : ∀ a : Fin 2, (![8, 0] : Fin 2 → ℕ) a + ST.size a ≤ SB.size a)
    (inbo : ∀ a : Fin 2, (![o, 0] : Fin 2 → ℕ) a + ST.size a ≤ SB.size a)
    (P : (Rect.unit (s := SB) ![8, 0] ST.size inb8).shape.Idx → Val e) (L : List (View.Piece Val SB e)) (y : ST.Idx) (G : Val e)
    (hP : ∀ x : ST.Idx, (x 0 : ℕ) + 8 = o + y 0 → (x 1 : ℕ) = y 1 → P x = G)
    (hC : ∀ z : SB.Idx, (z 0 : ℕ) = o + y 0 → (z 0 : ℕ) < 8 → (z 1 : ℕ) = y 1 → v.read Val (v.writes Val f L) z = G) :
    v.read Val (v.writes Val f ((⟨Rect.unit (s := SB) ![8, 0] ST.size inb8, P⟩ : View.Piece Val SB e) :: L))
      ((Rect.unit (s := SB) ![o, 0] ST.size inbo).toLoadRect.idx y) = G := by
  have e0 : (((Rect.unit (s := SB) ![o, 0] ST.size inbo).toLoadRect.idx y) 0 : ℕ) = o + y 0 := by
    show o + 1 * (y 0 : ℕ) = _; omega
  have e1 : (((Rect.unit (s := SB) ![o, 0] ST.size inbo).toLoadRect.idx y) 1 : ℕ) = y 1 := by
    show 0 + 1 * (y 1 : ℕ) = _; omega
  have hy0 : (y 0 : ℕ) < 1040 := (y 0).isLt
  have hy1 : (y 1 : ℕ) < 256 := (y 1).isLt
  have ho : o + 1040 ≤ 1048 := inbo 0
  by_cases h : o + (y 0 : ℕ) < 8
  · rw [View.read_writes_cons_unit_of_not_mem v f inb8 P L _ rfl (0 : Fin 2) (Or.inl (by rw [e0]; exact h))]
    exact hC _ e0 (by rw [e0]; exact h) e1
  · let x : ST.Idx := fun a => match a with
      | ⟨0, _⟩ => ⟨o + (y 0 : ℕ) - 8, by show o + (y 0 : ℕ) - 8 < 1040; omega⟩
      | ⟨1, _⟩ => ⟨(y 1 : ℕ), hy1⟩
    rw [View.read_writes_cons_unit_of_mem v f inb8 P L _ x rfl
      (Fin.forall_fin_two.mpr ⟨by rw [e0]; show _ = 8 + (o + (y 0 : ℕ) - 8); omega, by rw [e1]; show _ = 0 + (y 1 : ℕ); omega⟩)]
    exact hP x (by show o + (y 0 : ℕ) - 8 + 8 = _; omega) rfl

/-- The same load, where the stores cover it. -/
theorem readCov_shift (v : View sig κ sp SB e) (o : ℕ)
    (inb8 : ∀ a : Fin 2, (![8, 0] : Fin 2 → ℕ) a + ST.size a ≤ SB.size a)
    (inbo : ∀ a : Fin 2, (![o, 0] : Fin 2 → ℕ) a + ST.size a ≤ SB.size a)
    (P : (Rect.unit (s := SB) ![8, 0] ST.size inb8).shape.Idx → Val e) (L : List (View.Piece Val SB e)) (y : ST.Idx) (G : Val e)
    (hP : ∀ x : ST.Idx, (x 0 : ℕ) + 8 = o + y 0 → (x 1 : ℕ) = y 1 → P x = G)
    (hC : ∀ z : SB.Idx, (z 0 : ℕ) = o + y 0 → (z 0 : ℕ) < 8 → (z 1 : ℕ) = y 1 → v.read Val (v.writes Val v.junk L) z = G) :
    v.readCov ((⟨Rect.unit (s := SB) ![8, 0] ST.size inb8, P⟩ : View.Piece Val SB e) :: L)
      (Rect.unit (s := SB) ![o, 0] ST.size inbo).toLoadRect y = G :=
  read_shift v v.junk o inb8 inbo P L y G hP hC

/-- The carried rows right after they were filled with one value. -/
theorem read_fill (v : View sig κ sp SB e) (f : v.ty.Contents Val)
    (inb0 : ∀ a : Fin 2, (![0, 0] : Fin 2 → ℕ) a + SC.size a ≤ SB.size a)
    (Q : (Rect.unit (s := SB) ![0, 0] SC.size inb0).shape.Idx → Val e) (L : List (View.Piece Val SB e)) (z : SB.Idx) (hz : (z 0 : ℕ) < 8)
    (G : Val e) (hQ : ∀ x : SC.Idx, Q x = G) :
    v.read Val (v.writes Val f ((⟨Rect.unit (s := SB) ![0, 0] SC.size inb0, Q⟩ : View.Piece Val SB e) :: L)) z = G := by
  let x : SC.Idx := fun a => match a with
    | ⟨0, _⟩ => ⟨(z 0 : ℕ), hz⟩
    | ⟨1, _⟩ => ⟨(z 1 : ℕ), (z 1).isLt⟩
  rw [View.read_writes_cons_unit_of_mem v f inb0 Q L z x rfl
    (Fin.forall_fin_two.mpr ⟨by show (z 0 : ℕ) = 0 + (z 0 : ℕ); omega, by show (z 1 : ℕ) = 0 + (z 1 : ℕ); omega⟩)]
  exact hQ x

/-- The first rows of the buffer, after the tile's last rows were copied there: what the copy stored. -/
theorem canon_carry (inb0 : ∀ a : Fin 2, (![0, 0] : Fin 2 → ℕ) a + SC.size a ≤ SB.size a)
    (Q : (Rect.unit (s := SB) ![0, 0] SC.size inb0).shape.Idx → Val e) (L : List (View.Piece Val SB e)) (z : SB.Idx) (hz : (z 0 : ℕ) < 8)
    (G : Val e) (hQ : ∀ x : SC.Idx, (x 0 : ℕ) = z 0 → (x 1 : ℕ) = z 1 → Q x = G) :
    View.canon ((⟨Rect.unit (s := SB) ![0, 0] SC.size inb0, Q⟩ : View.Piece Val SB e) :: L) z = G := by
  let x : SC.Idx := fun a => match a with
    | ⟨0, _⟩ => ⟨(z 0 : ℕ), hz⟩
    | ⟨1, _⟩ => ⟨(z 1 : ℕ), (z 1).isLt⟩
  have hx : (Rect.unit (s := SB) ![0, 0] SC.size inb0).emb x = z := funext fun a => Fin.ext (by
    match a with
    | ⟨0, _⟩ => show 0 + 1 * (z 0 : ℕ) = _; simp
    | ⟨1, _⟩ => show 0 + 1 * (z 1 : ℕ) = _; simp)
  rw [← hx, View.canon_cons_emb]
  exact hQ x rfl rfl

/-- A load of the tile's last 8 rows, after the tile was stored. -/
theorem readCov_last (v : View sig κ sp SB e)
    (inb8 : ∀ a : Fin 2, (![8, 0] : Fin 2 → ℕ) a + ST.size a ≤ SB.size a)
    (inbl : ∀ a : Fin 2, (![1040, 0] : Fin 2 → ℕ) a + SC.size a ≤ SB.size a)
    (P : (Rect.unit (s := SB) ![8, 0] ST.size inb8).shape.Idx → Val e) (L : List (View.Piece Val SB e)) (y : SC.Idx) (G : Val e)
    (hP : ∀ x : ST.Idx, (x 0 : ℕ) = 1032 + y 0 → (x 1 : ℕ) = y 1 → P x = G) :
    v.readCov ((⟨Rect.unit (s := SB) ![8, 0] ST.size inb8, P⟩ : View.Piece Val SB e) :: L)
      (Rect.unit (s := SB) ![1040, 0] SC.size inbl).toLoadRect y = G := by
  have hy0 : (y 0 : ℕ) < 8 := (y 0).isLt
  have hy1 : (y 1 : ℕ) < 256 := (y 1).isLt
  let x : ST.Idx := fun a => match a with
    | ⟨0, _⟩ => ⟨1032 + (y 0 : ℕ), by show 1032 + (y 0 : ℕ) < 1040; omega⟩
    | ⟨1, _⟩ => ⟨(y 1 : ℕ), hy1⟩
  have := View.read_writes_cons_unit_of_mem v v.junk inb8 P L ((Rect.unit (s := SB) ![1040, 0] SC.size inbl).toLoadRect.idx y) x rfl
      (Fin.forall_fin_two.mpr ⟨by show 1040 + 1 * (y 0 : ℕ) = 8 + (1032 + (y 0 : ℕ)); omega, by show 0 + 1 * (y 1 : ℕ) = 0 + (y 1 : ℕ); omega⟩)
  exact Eq.trans this (hP x rfl rfl)

end Cert.ConvBuf

end
-- ==== Proof.FfnUpValue.lean ====
module

public import proofs.«01_k».proof.Proof.Gen.FfnUpIdeal.Value
public import proofs.«01_k».proof.Proof.Gen.FfnUpRefIdeal.Read
public import proofs.«01_k».proof.Proof.Gen.FfnUpRefIdeal.Run
public import Idealize.ShloMosaic.Lib.Pipeline.ValueKit
public import Idealize.ShloMosaic.Lib.Pipeline.ReadBack
public import proofs.«01_k».proof.Proof.ConvBuf

/-! The feed-forward's first call: two products with kept weight tiles, a three-tap causal convolution of one of them
through a buffer that carries the end of the tile before, the smooth gate and the product with the other. -/

@[expose] public section

set_option maxRecDepth 16384

noncomputable section

open Idealize.ShloMosaic Idealize.ShloMosaic.TcCoe Idealize.SL.Sem
open Idealize.ShloMosaic.Pipeline (Dat)

namespace Cert.FfnUpIdeal.Up

open Cert.FfnUpIdeal Cert.FfnUpIdeal.Gen Cert.FfnUpRefIdeal.Read

variable (m : (ℓ : Loc nD τ sig) → Buf (Elt Ideal) ℓ)

/-- The block of each array a point works on. -/
theorem idx_val : ∀ t : Fin cfg0.N, win0_0.index t = ![t.val % 8, 0] ∧ win0_1.index t = ![0, t.val / 8]
    ∧ win0_2.index t = ![0, t.val / 8 + 43] ∧ win0_3.index t = ![0, t.val / 8] ∧ win0_4.index t = ![0, t.val / 8]
    ∧ win0_5.index t = ![t.val % 8, t.val / 8] ∧ t.val / 8 < 43 :=
  (by decide +kernel : ∀ t : Fin grid0.N, _)

/-- The gate's rows at a point, at their place in the reference's padded stream. -/
theorem gate (c : Dev nD) (t : Fin cfg0.N) (y : S1040x256.Idx) (j : Cert.FfnUpRefIdeal.S8322x11008.Idx)
    (h0 : (j 0 : ℕ) = t.val % 8 * 1040 + y 0 + 2) (h1 : (j 1 : ℕ) = t.val / 8 * 256 + y 1) :
    k0_pay6 (F := Ideal) (iblk m c 0 t) (k0_pay3 (F := Ideal) (iblk m c 1 t)) y
      = val_main_v4 (F := Ideal) (m ((c : Thread nD τ).loc main_arg0)) (m ((c : Thread nD τ).loc main_arg1)) j := by
  pointwise [k0_pay6, k0_pay3, val_main_v4, val_main_v2, val_main_v1, val_main_v0]
  blk_point [iblk, V, idx_val t]
  omega

/-- The other half's rows at a point. -/
theorem up (c : Dev nD) (t : Fin cfg0.N) (y : S1040x256.Idx) (j : S8320x11008.Idx)
    (h0 : (j 0 : ℕ) = t.val % 8 * 1040 + y 0) (h1 : (j 1 : ℕ) = t.val / 8 * 256 + y 1) :
    k0_pay7 (F := Ideal) (iblk m c 0 t) (k0_pay4 (F := Ideal) (iblk m c 2 t)) y
      = val_main_v3 (F := Ideal) (m ((c : Thread nD τ).loc main_arg0)) (m ((c : Thread nD τ).loc main_arg1)) j := by
  pointwise [k0_pay7, k0_pay4, val_main_v3, val_main_v1, val_main_v0]
  blk_point [iblk, V, idx_val t]

/-- What a point stores, from the gate's rows, the two shifted loads and the other half. -/
theorem point (c : Dev nD) (t : Fin cfg0.N) (y : S1040x256.Idx) (j : S8320x11008.Idx)
    (h0 : (j 0 : ℕ) = t.val % 8 * 1040 + y 0) (h1 : (j 1 : ℕ) = t.val / 8 * 256 + y 1)
    (L6 L7 : Vec Ideal S1040x256 .f32)
    (h6 : ∀ i : Cert.FfnUpRefIdeal.S8322x11008.Idx, (i 0 : ℕ) = t.val % 8 * 1040 + y 0 → (i 1 : ℕ) = t.val / 8 * 256 + y 1 →
      L6 y = val_main_v4 (F := Ideal) (m ((c : Thread nD τ).loc main_arg0)) (m ((c : Thread nD τ).loc main_arg1)) i)
    (h7 : ∀ i : Cert.FfnUpRefIdeal.S8322x11008.Idx, (i 0 : ℕ) = t.val % 8 * 1040 + y 0 + 1 → (i 1 : ℕ) = t.val / 8 * 256 + y 1 →
      L7 y = val_main_v4 (F := Ideal) (m ((c : Thread nD τ).loc main_arg0)) (m ((c : Thread nD τ).loc main_arg1)) i) :
    k0_pay1 (F := Ideal) (k0_pay7 (iblk m c 0 t) (k0_pay4 (F := Ideal) (iblk m c 2 t)))
      (k0_pay9 (iblk m c 0 t) (k0_pay3 (F := Ideal) (iblk m c 1 t)) (iblk m c 4 t) L6
        (View.ld (iblk m c 3 t) (Rect.unit ![0, 0] ![1, 256] inb_S3x256_S1x256_0_0)) L7
        (View.ld (iblk m c 3 t) (Rect.unit ![1, 0] ![1, 256] inb_S3x256_S1x256_1_0))
        (View.ld (iblk m c 3 t) (Rect.unit ![2, 0] ![1, 256] inb_S3x256_S1x256_2_0)))
      (k0_pay10 (iblk m c 0 t) (k0_pay3 (F := Ideal) (iblk m c 1 t)) (iblk m c 4 t) L6
        (View.ld (iblk m c 3 t) (Rect.unit ![0, 0] ![1, 256] inb_S3x256_S1x256_0_0)) L7
        (View.ld (iblk m c 3 t) (Rect.unit ![1, 0] ![1, 256] inb_S3x256_S1x256_1_0))
        (View.ld (iblk m c 3 t) (Rect.unit ![2, 0] ![1, 256] inb_S3x256_S1x256_2_0))) k0_pay11 y
      = val_main_v42 (F := Ideal) (m ((c : Thread nD τ).loc main_arg0)) (m ((c : Thread nD τ).loc main_arg1))
          (m ((c : Thread nD τ).loc main_arg2)) (m ((c : Thread nD τ).loc main_arg3)) j := by
  pointwise [k0_pay1, k0_pay9, k0_pay10, k0_pay11,
    val_main_v5, val_main_v6, val_main_v7, val_main_v8, val_main_v9, val_main_v10, val_main_v11, val_main_v12, val_main_v13,
    val_main_v14, val_main_v15, val_main_v16, val_main_v17, val_main_v18, val_main_v19, val_main_v20, val_main_v21, val_main_v22,
    val_main_v23, val_main_v24, val_main_v25, val_main_v26, val_main_v27, val_main_v28, val_main_v29, val_main_cst, val_main_v30,
    val_main_v31, val_main_v32, val_main_cst_0, val_main_v33, val_main_v34, val_main_v35, val_main_cst_1, val_main_v36, val_main_v37,
    val_main_cst_2, val_main_v38, val_main_v39, val_main_v40, val_main_v41, val_main_v42]
  have e4 : (iblk m c 4 t (ix2 0 (y 1)) : EReal) = m ((c : Thread nD τ).loc main_arg3) (ix1 (j 1)) := by
    blk_point [iblk, V, idx_val t]
  have e30 : (iblk m c 3 t (ix2 0 (y 1)) : EReal) = m ((c : Thread nD τ).loc main_arg2) (ix2 0 (j 1)) := by
    blk_point [iblk, V, idx_val t]
  have e31 : (iblk m c 3 t (ix2 1 (y 1)) : EReal) = m ((c : Thread nD τ).loc main_arg2) (ix2 1 (j 1)) := by
    blk_point [iblk, V, idx_val t]
  have e32 : (iblk m c 3 t (ix2 2 (y 1)) : EReal) = m ((c : Thread nD τ).loc main_arg2) (ix2 2 (j 1)) := by
    blk_point [iblk, V, idx_val t]
  have hj : (j 0 : ℕ) < 8320 := (j 0).isLt
  rw [e4, e30, e31, e32, h6 (ix2 ⟨(j 0 : ℕ), by omega⟩ (j 1)) h0 h1, h7 (ix2 ⟨1 + (j 0 : ℕ), by omega⟩ (j 1)) (by show 1 + (j 0 : ℕ) = _; omega) h1,
    gate m c t y (ix2 ⟨2 + (j 0 : ℕ), by omega⟩ (j 1)) (by show 2 + (j 0 : ℕ) = _; omega) h1, up m c t y j h0 h1]
  generalize (_ + (_ : EReal) * _ + (_ : EReal) * _ + (_ : EReal) * _ : EReal) = s
  rw [mul_comm s (s * s)]

/-- The weight blocks of a point that is not the first of its column are those of the point before. -/
theorem weights_prev (c : Dev nD) (t : Fin cfg0.N) (h : ¬ t.val % 8 = 0) (ht : t.val - 1 < cfg0.N) :
    iblk m c 1 ⟨t.val - 1, ht⟩ = iblk m c 1 t := by
  funext y
  blk_ext [iblk, V, idx_val t, idx_val ⟨t.val - 1, ht⟩]

/-- The same for the other half's weights. -/
theorem weights_prev' (c : Dev nD) (t : Fin cfg0.N) (h : ¬ t.val % 8 = 0) (ht : t.val - 1 < cfg0.N) :
    iblk m c 2 ⟨t.val - 1, ht⟩ = iblk m c 2 t := by
  funext y
  blk_ext [iblk, V, idx_val t, idx_val ⟨t.val - 1, ht⟩]

/-- After every point the first buffer holds the gate's weight block of that point's column. -/
theorem kept (c : Dev nD) : ∀ (n : ℕ) (h : n < cfg0.N), (outsAt0 m c n h).2.1 = k0_pay3 (F := Ideal) (iblk m c 1 ⟨n, h⟩)
  | n, h => by
    by_cases h0 : n % 8 = 0
    · rw [outsAt0_A m c ⟨n, h⟩ h0]; frame_out
    · rw [outsAt0_B m c ⟨n, h⟩ h0]
      have hn : n - 1 < n := by omega
      have ih := kept c (n - 1) (lt_trans hn h)
      frame_out
      rw [show (outsAt0 m c (n - 1) _).2.1 = _ from ih, weights_prev m c ⟨n, h⟩ h0]
      rfl

/-- After every point the second buffer holds the other half's weight block of that point's column. -/
theorem kept' (c : Dev nD) : ∀ (n : ℕ) (h : n < cfg0.N), (outsAt0 m c n h).2.2.1 = k0_pay4 (F := Ideal) (iblk m c 2 ⟨n, h⟩)
  | n, h => by
    by_cases h0 : n % 8 = 0
    · rw [outsAt0_A m c ⟨n, h⟩ h0]; frame_out
    · rw [outsAt0_B m c ⟨n, h⟩ h0]
      have hn : n - 1 < n := by omega
      have ih := kept' c (n - 1) (lt_trans hn h)
      frame_out
      rw [show (outsAt0 m c (n - 1) _).2.2.1 = _ from ih, weights_prev' m c ⟨n, h⟩ h0]
      rfl

/-- The stored tile is the gate's rows. -/
theorem tile (c : Dev nD) (t : Fin cfg0.N) (y : S1040x256.Idx) (j : Cert.FfnUpRefIdeal.S8322x11008.Idx)
    (h0 : (j 0 : ℕ) = t.val % 8 * 1040 + y 0 + 2) (h1 : (j 1 : ℕ) = t.val / 8 * 256 + y 1) :
    k0_pay8 (F := Ideal) (iblk m c 0 t) (k0_pay3 (F := Ideal) (iblk m c 1 t)) y
      = val_main_v4 (F := Ideal) (m ((c : Thread nD τ).loc main_arg0)) (m ((c : Thread nD τ).loc main_arg1)) j := by
  rw [← gate m c t y j h0 h1]
  pointwise [k0_pay8]

/-- The rows carried to the next tile are the last rows of the gate. -/
theorem carry (c : Dev nD) (t : Fin cfg0.N) (z : S1048x256.Idx) (hz : (z 0 : ℕ) < 8) (j : Cert.FfnUpRefIdeal.S8322x11008.Idx)
    (h0 : (j 0 : ℕ) = t.val % 8 * 1040 + 1034 + z 0) (h1 : (j 1 : ℕ) = t.val / 8 * 256 + z 1) :
    (outsAt0 m c t.val t.isLt).2.2.2 z
      = val_main_v4 (F := Ideal) (m ((c : Thread nD τ).loc main_arg0)) (m ((c : Thread nD τ).loc main_arg1)) j := by
  by_cases h : t.val % 8 = 0
  · rw [outsAt0_A m c t h]
    frame_out
    refine ConvBuf.canon_carry _ _ _ z hz _ fun x hx0 hx1 => ?_
    pointwise [k0_pay2]
    refine ConvBuf.readCov_last _ _ _ _ _ x _ fun x' hx0' hx1' => ?_
    exact tile m c t x' j (by omega) (by omega)
  · rw [outsAt0_B m c t h]
    frame_out
    rw [kept m c (t.val - 1) _, weights_prev m c t h]
    refine ConvBuf.canon_carry _ _ _ z hz _ fun x hx0 hx1 => ?_
    pointwise [k0_pay2]
    refine ConvBuf.readCov_last _ _ _ _ _ x _ fun x' hx0' hx1' => ?_
    rw [read_unread_whole]
    exact tile m c t x' j (by omega) (by omega)

/-- Before the stream starts the reference reads its padding, 0. -/
theorem pad_zero (X : FVec Ideal S8320x4096 .bf16) (Wt : FVec Ideal S4096x22016 .f32) (j : Cert.FfnUpRefIdeal.S8322x11008.Idx)
    (h : (j 0 : ℕ) < 2) : val_main_v4 (F := Ideal) X Wt j = 0 := by
  pointwise [val_main_v4, val_main_call0_v0, val_main_c]
  rw [dif_neg (by omega)]
  show (((0#32 : BitVec 32).toInt : ℝ) : EReal) = 0
  simp

/-- The carried rows a column starts with are 0. -/
theorem zero_rows (x : S8x256.Idx) : k0_pay5 (F := Ideal) x = 0 := by
  pointwise [k0_pay5]

/-- The block a point leaves is the reference where that block lies. -/
theorem outs (c : Dev nD) (t : Fin cfg0.N) (y : S1040x256.Idx) (j : S8320x11008.Idx)
    (h0 : (j 0 : ℕ) = t.val % 8 * 1040 + y 0) (h1 : (j 1 : ℕ) = t.val / 8 * 256 + y 1) : (outsAt0 m c t.val t.isLt).1 y
      = val_main_v42 (F := Ideal) (m ((c : Thread nD τ).loc main_arg0)) (m ((c : Thread nD τ).loc main_arg1))
          (m ((c : Thread nD τ).loc main_arg2)) (m ((c : Thread nD τ).loc main_arg3)) j := by
  by_cases h : t.val % 8 = 0
  · rw [outsAt0_A m c t h]
    frame_out
    refine point m c t y j h0 h1 _ _ (fun i hi0 hi1 => ?_) (fun i hi0 hi1 => ?_)
    · refine ConvBuf.readCov_shift _ 6 _ _ _ _ y _ (fun x hx0 hx1 => tile m c t x i (by omega) (by omega)) (fun z hz0 hz8 hz1 => ?_)
      rw [pad_zero _ _ _ (by omega)]
      exact ConvBuf.read_fill _ _ _ _ _ z hz8 _ zero_rows
    · refine ConvBuf.readCov_shift _ 7 _ _ _ _ y _ (fun x hx0 hx1 => tile m c t x i (by omega) (by omega)) (fun z hz0 hz8 hz1 => ?_)
      rw [pad_zero _ _ _ (by omega)]
      exact ConvBuf.read_fill _ _ _ _ _ z hz8 _ zero_rows
  · rw [outsAt0_B m c t h]
    frame_out
    simp only [read_unread_whole, kept m c (t.val - 1), kept' m c (t.val - 1), weights_prev m c t h, weights_prev' m c t h]
    have ht : t.val - 1 < cfg0.N := lt_of_le_of_lt (Nat.sub_le _ _) t.isLt
    have hc : ∀ (z : S1048x256.Idx) (i : Cert.FfnUpRefIdeal.S8322x11008.Idx), (z 0 : ℕ) < 8 →
        (i 0 : ℕ) = (t.val - 1) % 8 * 1040 + 1034 + z 0 → (i 1 : ℕ) = (t.val - 1) / 8 * 256 + z 1 →
        (outsAt0 m c (t.val - 1) ht).2.2.2 z
          = val_main_v4 (F := Ideal) (m ((c : Thread nD τ).loc main_arg0)) (m ((c : Thread nD τ).loc main_arg1)) i :=
      fun z i hz a b => carry m c ⟨t.val - 1, ht⟩ z hz i a b
    refine point m c t y j h0 h1 _ _ (fun i hi0 hi1 => ?_) (fun i hi0 hi1 => ?_)
    · refine ConvBuf.read_shift _ _ 6 _ _ _ _ y _ (fun x hx0 hx1 => tile m c t x i (by omega) (by omega)) (fun z hz0 hz8 hz1 => ?_)
      rw [View.writes_nil, read_unread_whole]
      exact hc z i hz8 (by omega) (by omega)
    · refine ConvBuf.read_shift _ _ 7 _ _ _ _ y _ (fun x hx0 hx1 => tile m c t x i (by omega) (by omega)) (fun z hz0 hz8 hz1 => ?_)
      rw [View.writes_nil, read_unread_whole]
      exact hc z i hz8 (by omega) (by omega)

/-- The result array after the run is the reference. -/
theorem final (c : Dev nD) : (dats m 0 c).arrAt 5 cfg0.N
    = val_main_v42 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t _ y => ?_
  blk_simp
  rw [after0_5]
  refine outs m c t y _ ?_ ?_
  all_goals (blk_simp [idx_val t] <;> try omega)

end Cert.FfnUpIdeal.Up

end
-- ==== Proof.FfnUpClaims.lean ====
module

public import proofs.«01_k».proof.Defs
public import proofs.«01_k».proof.Proof.Gen.FfnUp.Frame
public import proofs.«01_k».proof.Proof.Gen.FfnUpIdeal.Frame
public import proofs.«01_k».proof.Proof.FfnUpValue
public import Idealize.ShloMosaic.Lib.Claim
public import Idealize.ShloMosaic.Lib.Quiescent

/-! The claims about the feed-forward's first call. -/

@[expose] public section

set_option maxRecDepth 16384

noncomputable section

open Idealize.ShloMosaic Idealize.SL.Sem

namespace Cert.Proof.FfnUp

/-- The kernel as printed runs and leaves its arguments. -/
theorem frame : Cert.quiescent_FfnUp := fun m ρ _ => Cert.FfnUp.Gen.frame m ρ

/-- The idealized kernel runs and leaves its arguments. -/
theorem frame_ideal : Cert.quiescent_FfnUpIdeal := fun m ρ _ => Cert.FfnUpIdeal.Gen.frame m ρ

/-- The reference runs and leaves its arguments. -/
theorem frame_ref : Cert.quiescent_FfnUpRefIdeal := fun m ρ _ =>
  (θ_run _ _ _).mono (fun r h => ⟨fun c => (h c).2, sem_eq_zero_of_no_sems (by decide) _⟩) (Cert.FfnUpRefIdeal.Value.run m ρ)

set_option maxHeartbeats 1600000 in
/-- The idealized kernel's results are the reference's. -/
theorem algebraic : Cert.algebraic_FfnUpIdeal_FfnUpRefIdeal := by
  pair_intro
  · run_from Cert.FfnUpIdeal.Gen.run_main m g
  · run_from Cert.FfnUpRefIdeal.Value.run m' g'
    rw [Cert.FfnUpRefIdeal.Read.val_main_v42_eq, (hagree c).1, (hagree c).2.1, (hagree c).2.2.1, (hagree c).2.2.2]
    exact (Cert.FfnUpIdeal.Up.final m c).symm

end Cert.Proof.FfnUp

end
-- ==== Proof.DownValue.lean ====
module

public import proofs.«01_k».proof.Proof.Gen.FfnDownIdeal.Value
public import proofs.«01_k».proof.Proof.Gen.FfnDownRefIdeal.Read
public import proofs.«01_k».proof.Proof.Gen.FfnDownRefIdeal.Run
public import Idealize.ShloMosaic.Lib.Pipeline.ValueKit

/-! The down projection: one block of the tiled product is the same block of the whole product. -/

@[expose] public section

set_option maxRecDepth 16384

noncomputable section

open Idealize.ShloMosaic Idealize.ShloMosaic.TcCoe Idealize.SL.Sem
open Idealize.ShloMosaic.Pipeline (Dat)

namespace Cert.FfnDownIdeal.Product

open Cert.FfnDownIdeal Cert.FfnDownIdeal.Gen

variable (m : (ℓ : Loc nD τ sig) → Buf (Elt Ideal) ℓ)

/-- The whole product, as the reference states it. -/
abbrev REF (X : FVec Ideal S8320x11008 .bf16) (Wt : FVec Ideal S11008x4096 .f32) : FVec Ideal S8320x4096 .f32 :=
  Cert.FfnDownRefIdeal.Read.val_main_v1 (F := Ideal) X Wt

theorem idx_val : ∀ t : Fin cfg0.N, win0_0.index t = ![t.val % 16, 0] ∧ win0_1.index t = ![0, t.val / 16]
    ∧ win0_2.index t = ![t.val % 16, t.val / 16] ∧ t.val / 16 < 8 :=
  (by decide +kernel : ∀ t : Fin grid0.N, _)

/-- What a point stores at `y` of its block is the whole product where that block lies. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.FfnDownRefIdeal.Read.val_main_v1, Cert.FfnDownRefIdeal.Read.val_main_v0]
  blk_point [iblk, V, idx_val t]

/-- The result array after the run is the whole product. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FfnDownIdeal.Product

end
-- ==== Proof.FfnDownClaims.lean ====
module

public import proofs.«01_k».proof.Defs
public import proofs.«01_k».proof.Proof.Gen.FfnDown.Frame
public import proofs.«01_k».proof.Proof.Gen.FfnDownIdeal.Frame
public import proofs.«01_k».proof.Proof.DownValue
public import Idealize.ShloMosaic.Lib.Claim
public import Idealize.ShloMosaic.Lib.Quiescent

/-! The claims about the feed-forward's second product. -/

@[expose] public section

set_option maxRecDepth 16384

noncomputable section

open Idealize.ShloMosaic Idealize.SL.Sem

namespace Cert.Proof.FfnDown

/-- The kernel as printed runs and leaves its arguments. -/
theorem frame : Cert.quiescent_FfnDown := fun m ρ _ => Cert.FfnDown.Gen.frame m ρ

/-- The idealized kernel runs and leaves its arguments. -/
theorem frame_ideal : Cert.quiescent_FfnDownIdeal := fun m ρ _ => Cert.FfnDownIdeal.Gen.frame m ρ

/-- The reference runs and leaves its arguments. -/
theorem frame_ref : Cert.quiescent_FfnDownRefIdeal := fun m ρ _ =>
  (θ_run _ _ _).mono (fun r h => ⟨fun c => (h c).2, sem_eq_zero_of_no_sems (by decide) _⟩) (Cert.FfnDownRefIdeal.Value.run m ρ)

set_option maxHeartbeats 1600000 in
/-- The idealized kernel's results are the reference's. -/
theorem algebraic : Cert.algebraic_FfnDownIdeal_FfnDownRefIdeal := by
  pair_intro
  · run_from Cert.FfnDownIdeal.Gen.run_main m g
  · run_from Cert.FfnDownRefIdeal.Value.run m' g'
    exact (Cert.FfnDownIdeal.Product.final m c).symm

end Cert.Proof.FfnDown

end
-- ==== Proof.InEvenValue.lean ====
module

public import proofs.«01_k».proof.Proof.Gen.InEvenIdeal.Value
public import proofs.«01_k».proof.Proof.Gen.InEvenRefIdeal.Read
public import proofs.«01_k».proof.Proof.Gen.InEvenRefIdeal.Run
public import Idealize.ShloMosaic.Lib.Pipeline.ValueKit

/-! The input projection of the attention layers: the kernel keeps the weight tile of a column block in a buffer it fills at the first row block, and every
row block's product is the same block of the whole product. -/

@[expose] public section

set_option maxRecDepth 16384

noncomputable section

open Idealize.ShloMosaic Idealize.ShloMosaic.TcCoe Idealize.SL.Sem
open Idealize.ShloMosaic.Pipeline (Dat)

namespace Cert.InEvenIdeal.Product

open Cert.InEvenIdeal Cert.InEvenIdeal.Gen

variable (m : (ℓ : Loc nD τ sig) → Buf (Elt Ideal) ℓ)

/-- The whole product, as the reference states it. -/
abbrev REF (X : FVec Ideal S8320x4096 .bf16) (Wt : FVec Ideal S4096x10752 .f32) : FVec Ideal S8320x10752 .f32 :=
  Cert.InEvenRefIdeal.Read.val_main_v1 (F := Ideal) X Wt

/-- The block of each array a point works on. -/
theorem idx_val : ∀ t : Fin cfg0.N, win0_0.index t = ![t.val % 8, 0] ∧ win0_1.index t = ![0, t.val / 8]
    ∧ win0_2.index t = ![t.val % 8, t.val / 8] ∧ t.val / 8 < 21 :=
  (by decide +kernel : ∀ t : Fin grid0.N, _)

/-- The weight block of a point that is not the first of its column is the block of the point before. -/
theorem weights_prev (c : Dev nD) (t : Fin cfg0.N) (h : ¬ t.val % 8 = 0) (ht : t.val - 1 < cfg0.N) :
    iblk m c 1 ⟨t.val - 1, ht⟩ = iblk m c 1 t := by
  funext y
  blk_ext [iblk, V, idx_val t, idx_val ⟨t.val - 1, ht⟩]

/-- After every point the buffer holds the weight block of that point's column. -/
theorem kept (c : Dev nD) : ∀ (n : ℕ) (h : n < cfg0.N), (outsAt0 m c n h).2 = k0_pay1 (F := Ideal) (iblk m c 1 ⟨n, h⟩)
  | n, h => by
    by_cases h0 : n % 8 = 0
    · rw [outsAt0_A m c ⟨n, h⟩ h0]; frame_out
    · rw [outsAt0_B m c ⟨n, h⟩ h0]
      have hn : n - 1 < n := by omega
      have ih := kept c (n - 1) (lt_trans hn h)
      frame_out
      rw [show (outsAt0 m c (n - 1) _).2 = _ from ih, weights_prev m c ⟨n, h⟩ h0]
      rfl

/-- What a point stores at `y` of its block is the whole product where that block lies. -/
theorem point (c : Dev nD) (t : Fin cfg0.N) (y) :
    k0_pay2 (F := Ideal) (iblk m c 0 t) (k0_pay1 (F := Ideal) (iblk m c 1 t)) y
    = REF (m ((c : Thread nD τ).loc main_arg0)) (m ((c : Thread nD τ).loc main_arg1)) (((cfg0.win 2).blk t).view.emb y) := by
  pointwise [k0_pay1, k0_pay2, REF, Cert.InEvenRefIdeal.Read.val_main_v1, Cert.InEvenRefIdeal.Read.val_main_v0]
  blk_point [iblk, V, idx_val t]

/-- The block a point leaves is the product of its rows with the weight block of its column. -/
theorem outs (c : Dev nD) (t : Fin cfg0.N) : (outsAt0 m c t.val t.isLt).1
    = k0_pay2 (F := Ideal) (iblk m c 0 t) (k0_pay1 (F := Ideal) (iblk m c 1 t)) := by
  by_cases h0 : t.val % 8 = 0
  · rw [outsAt0_A m c t h0]; frame_out
  · rw [outsAt0_B m c t h0]
    frame_out
    rw [kept m c (t.val - 1) _, weights_prev m c t h0]
    exact congrArg (k0_pay2 (F := Ideal) (iblk m c 0 t)) (Memref.IsWhole.read_unread _ _)

/-- The result array after the run is the whole product. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2, outs]
  exact point m c t y

end Cert.InEvenIdeal.Product

end
-- ==== Proof.InEvenClaims.lean ====
module

public import proofs.«01_k».proof.Defs
public import proofs.«01_k».proof.Proof.Gen.InEven.Frame
public import proofs.«01_k».proof.Proof.Gen.InEvenIdeal.Frame
public import proofs.«01_k».proof.Proof.InEvenValue
public import Idealize.ShloMosaic.Lib.Claim
public import Idealize.ShloMosaic.Lib.Quiescent

/-! The claims about the even layer's input product. -/

@[expose] public section

set_option maxRecDepth 16384

noncomputable section

open Idealize.ShloMosaic Idealize.SL.Sem

namespace Cert.Proof.InEven

/-- The kernel as printed runs and leaves its arguments. -/
theorem frame : Cert.quiescent_InEven := fun m ρ _ => Cert.InEven.Gen.frame m ρ

/-- The idealized kernel runs and leaves its arguments. -/
theorem frame_ideal : Cert.quiescent_InEvenIdeal := fun m ρ _ => Cert.InEvenIdeal.Gen.frame m ρ

/-- The reference runs and leaves its arguments. -/
theorem frame_ref : Cert.quiescent_InEvenRefIdeal := fun m ρ _ =>
  (θ_run _ _ _).mono (fun r h => ⟨fun c => (h c).2, sem_eq_zero_of_no_sems (by decide) _⟩) (Cert.InEvenRefIdeal.Value.run m ρ)

set_option maxHeartbeats 1600000 in
/-- The idealized kernel's results are the reference's. -/
theorem algebraic : Cert.algebraic_InEvenIdeal_InEvenRefIdeal := by
  pair_intro
  · run_from Cert.InEvenIdeal.Gen.run_main m g
  · run_from Cert.InEvenRefIdeal.Value.run m' g'
    exact (Cert.InEvenIdeal.Product.final m c).symm

end Cert.Proof.InEven

end
-- ==== Proof.OutValue.lean ====
module

public import proofs.«01_k».proof.Proof.Gen.OutIdeal.Value
public import proofs.«01_k».proof.Proof.Gen.OutRefIdeal.Read
public import proofs.«01_k».proof.Proof.Gen.OutRefIdeal.Run
public import Idealize.ShloMosaic.Lib.Pipeline.ValueKit

/-! The output projection: the kernel keeps the weight tile of a column block in a buffer it fills at the first row block, and every
row block's product is the same block of the whole product. -/

@[expose] public section

set_option maxRecDepth 16384

noncomputable section

open Idealize.ShloMosaic Idealize.ShloMosaic.TcCoe Idealize.SL.Sem
open Idealize.ShloMosaic.Pipeline (Dat)

namespace Cert.OutIdeal.Product

open Cert.OutIdeal Cert.OutIdeal.Gen

variable (m : (ℓ : Loc nD τ sig) → Buf (Elt Ideal) ℓ)

/-- The whole product, as the reference states it. -/
abbrev REF (X : FVec Ideal S8320x4096 .bf16) (Wt : FVec Ideal S4096x4096 .f32) : FVec Ideal S8320x4096 .f32 :=
  Cert.OutRefIdeal.Read.val_main_v1 (F := Ideal) X Wt

/-- The block of each array a point works on. -/
theorem idx_val : ∀ t : Fin cfg0.N, win0_0.index t = ![t.val % 8, 0] ∧ win0_1.index t = ![0, t.val / 8]
    ∧ win0_2.index t = ![t.val % 8, t.val / 8] ∧ t.val / 8 < 8 :=
  (by decide +kernel : ∀ t : Fin grid0.N, _)

/-- The weight block of a point that is not the first of its column is the block of the point before. -/
theorem weights_prev (c : Dev nD) (t : Fin cfg0.N) (h : ¬ t.val % 8 = 0) (ht : t.val - 1 < cfg0.N) :
    iblk m c 1 ⟨t.val - 1, ht⟩ = iblk m c 1 t := by
  funext y
  blk_ext [iblk, V, idx_val t, idx_val ⟨t.val - 1, ht⟩]

/-- After every point the buffer holds the weight block of that point's column. -/
theorem kept (c : Dev nD) : ∀ (n : ℕ) (h : n < cfg0.N), (outsAt0 m c n h).2 = k0_pay1 (F := Ideal) (iblk m c 1 ⟨n, h⟩)
  | n, h => by
    by_cases h0 : n % 8 = 0
    · rw [outsAt0_A m c ⟨n, h⟩ h0]; frame_out
    · rw [outsAt0_B m c ⟨n, h⟩ h0]
      have hn : n - 1 < n := by omega
      have ih := kept c (n - 1) (lt_trans hn h)
      frame_out
      rw [show (outsAt0 m c (n - 1) _).2 = _ from ih, weights_prev m c ⟨n, h⟩ h0]
      rfl

/-- What a point stores at `y` of its block is the whole product where that block lies. -/
theorem point (c : Dev nD) (t : Fin cfg0.N) (y) :
    k0_pay2 (F := Ideal) (iblk m c 0 t) (k0_pay1 (F := Ideal) (iblk m c 1 t)) y
    = REF (m ((c : Thread nD τ).loc main_arg0)) (m ((c : Thread nD τ).loc main_arg1)) (((cfg0.win 2).blk t).view.emb y) := by
  pointwise [k0_pay1, k0_pay2, REF, Cert.OutRefIdeal.Read.val_main_v1, Cert.OutRefIdeal.Read.val_main_v0]
  blk_point [iblk, V, idx_val t]

/-- The block a point leaves is the product of its rows with the weight block of its column. -/
theorem outs (c : Dev nD) (t : Fin cfg0.N) : (outsAt0 m c t.val t.isLt).1
    = k0_pay2 (F := Ideal) (iblk m c 0 t) (k0_pay1 (F := Ideal) (iblk m c 1 t)) := by
  by_cases h0 : t.val % 8 = 0
  · rw [outsAt0_A m c t h0]; frame_out
  · rw [outsAt0_B m c t h0]
    frame_out
    rw [kept m c (t.val - 1) _, weights_prev m c t h0]
    exact congrArg (k0_pay2 (F := Ideal) (iblk m c 0 t)) (Memref.IsWhole.read_unread _ _)

/-- The result array after the run is the whole product. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2, outs]
  exact point m c t y

end Cert.OutIdeal.Product

end
-- ==== Proof.OutClaims.lean ====
module

public import proofs.«01_k».proof.Defs
public import proofs.«01_k».proof.Proof.Gen.Out.Frame
public import proofs.«01_k».proof.Proof.Gen.OutIdeal.Frame
public import proofs.«01_k».proof.Proof.OutValue
public import Idealize.ShloMosaic.Lib.Claim
public import Idealize.ShloMosaic.Lib.Quiescent

/-! The claims about the output product. -/

@[expose] public section

set_option maxRecDepth 16384

noncomputable section

open Idealize.ShloMosaic Idealize.SL.Sem

namespace Cert.Proof.Out

/-- The kernel as printed runs and leaves its arguments. -/
theorem frame : Cert.quiescent_Out := fun m ρ _ => Cert.Out.Gen.frame m ρ

/-- The idealized kernel runs and leaves its arguments. -/
theorem frame_ideal : Cert.quiescent_OutIdeal := fun m ρ _ => Cert.OutIdeal.Gen.frame m ρ

/-- The reference runs and leaves its arguments. -/
theorem frame_ref : Cert.quiescent_OutRefIdeal := fun m ρ _ =>
  (θ_run _ _ _).mono (fun r h => ⟨fun c => (h c).2, sem_eq_zero_of_no_sems (by decide) _⟩) (Cert.OutRefIdeal.Value.run m ρ)

set_option maxHeartbeats 1600000 in
/-- The idealized kernel's results are the reference's. -/
theorem algebraic : Cert.algebraic_OutIdeal_OutRefIdeal := by
  pair_intro
  · run_from Cert.OutIdeal.Gen.run_main m g
  · run_from Cert.OutRefIdeal.Value.run m' g'
    exact (Cert.OutIdeal.Product.final m c).symm

end Cert.Proof.Out

end
-- ==== Proof.InOddValue.lean ====
module

public import proofs.«01_k».proof.Proof.Gen.InOddIdeal.Value
public import proofs.«01_k».proof.Proof.Gen.InOddRefIdeal.Read
public import proofs.«01_k».proof.Proof.Gen.InOddRefIdeal.Run
public import Idealize.ShloMosaic.Lib.Pipeline.ValueKit
public import Idealize.ShloMosaic.Lib.Pipeline.ReadBack
public import proofs.«01_k».proof.Proof.ConvBuf

/-! The odd layer's first call: two products with kept weight tiles, the smooth gate of the first, and a four-tap causal
convolution of the second through a buffer that carries the end of the tile before. -/

@[expose] public section

set_option maxRecDepth 16384

noncomputable section

open Idealize.ShloMosaic Idealize.ShloMosaic.TcCoe Idealize.SL.Sem
open Idealize.ShloMosaic.Pipeline (Dat)

namespace Cert.InOddIdeal.Proj

open Cert.InOddIdeal Cert.InOddIdeal.Gen Cert.InOddRefIdeal.Read

variable (m : (ℓ : Loc nD τ sig) → Buf (Elt Ideal) ℓ)

/-- The block of each array a point works on. -/
theorem idx_val : ∀ t : Fin cfg0.N, win0_0.index t = ![t.val % 8, 0] ∧ win0_1.index t = ![0, t.val / 8]
    ∧ win0_2.index t = ![0, t.val / 8 + 16] ∧ win0_3.index t = ![0, t.val / 8] ∧ win0_4.index t = ![0, t.val / 8]
    ∧ win0_5.index t = ![t.val % 8, t.val / 8] ∧ win0_6.index t = ![t.val % 8, t.val / 8] ∧ t.val / 8 < 16 :=
  (by decide +kernel : ∀ t : Fin grid0.N, _)

/-- The convolution's input rows at a point, at their place in the reference's padded stream. -/
theorem stream (c : Dev nD) (t : Fin cfg0.N) (y : S1040x256.Idx) (j : Cert.InOddRefIdeal.S8323x4096.Idx)
    (h0 : (j 0 : ℕ) = t.val % 8 * 1040 + y 0 + 3) (h1 : (j 1 : ℕ) = t.val / 8 * 256 + y 1) :
    k0_pay7 (F := Ideal) (iblk m c 0 t) (k0_pay4 (F := Ideal) (iblk m c 2 t)) y
      = val_main_v17 (F := Ideal) (m ((c : Thread nD τ).loc main_arg0)) (m ((c : Thread nD τ).loc main_arg1)) j := by
  pointwise [k0_pay7, k0_pay4, val_main_v17, val_main_v3, val_main_v1, val_main_v0]
  blk_point [iblk, V, idx_val t]
  omega

/-- The gate a point stores. -/
theorem gate (c : Dev nD) (t : Fin cfg0.N) (y : S1040x256.Idx) (j : S8320x4096.Idx)
    (h0 : (j 0 : ℕ) = t.val % 8 * 1040 + y 0) (h1 : (j 1 : ℕ) = t.val / 8 * 256 + y 1) :
    k0_pay6 (F := Ideal) (iblk m c 0 t) (k0_pay3 (F := Ideal) (iblk m c 1 t)) y
      = val_main_v16 (F := Ideal) (m ((c : Thread nD τ).loc main_arg0)) (m ((c : Thread nD τ).loc main_arg1)) j := by
  have e : k0_pay7 (F := Ideal) (iblk m c 0 t) (k0_pay3 (F := Ideal) (iblk m c 1 t)) y
      = val_main_v2 (F := Ideal) (m ((c : Thread nD τ).loc main_arg0)) (m ((c : Thread nD τ).loc main_arg1)) j := by
    pointwise [k0_pay7, k0_pay3, val_main_v2, val_main_v1, val_main_v0]
    blk_point [iblk, V, idx_val t]
  rw [show k0_pay6 (F := Ideal) (iblk m c 0 t) (k0_pay3 (F := Ideal) (iblk m c 1 t)) y
      = (fun s : EReal => s * (Ideal.ofBits .f32 0x3F000000#32 * (Ideal.ofBits .f32 0x3F800000#32
          + Ideal.tanh (Ideal.ofBits .f32 0x3F4C422A#32 * (s + Ideal.ofBits .f32 0x3D372713#32 * (s * (s * s)))))))
        (k0_pay7 (F := Ideal) (iblk m c 0 t) (k0_pay3 (F := Ideal) (iblk m c 1 t)) y) from rfl, e]
  pointwise [val_main_v4, val_main_v5, val_main_cst, val_main_v6, val_main_v7, val_main_v8, val_main_cst_0, val_main_v9,
    val_main_v10, val_main_v11, val_main_cst_1, val_main_v12, val_main_v13, val_main_cst_2, val_main_v14, val_main_v15, val_main_v16]
  generalize (val_main_v2 (F := Ideal) _ _ j : EReal) = s
  rw [mul_comm s (s * s)]

/-- What a point stores as the convolution, from its input rows and the three shifted loads. -/
theorem point (c : Dev nD) (t : Fin cfg0.N) (y : S1040x256.Idx) (j : S8320x4096.Idx)
    (h0 : (j 0 : ℕ) = t.val % 8 * 1040 + y 0) (h1 : (j 1 : ℕ) = t.val / 8 * 256 + y 1)
    (L5 L6 L7 : Vec Ideal S1040x256 .f32)
    (h5 : ∀ i : Cert.InOddRefIdeal.S8323x4096.Idx, (i 0 : ℕ) = t.val % 8 * 1040 + y 0 → (i 1 : ℕ) = t.val / 8 * 256 + y 1 →
      L5 y = val_main_v17 (F := Ideal) (m ((c : Thread nD τ).loc main_arg0)) (m ((c : Thread nD τ).loc main_arg1)) i)
    (h6 : ∀ i : Cert.InOddRefIdeal.S8323x4096.Idx, (i 0 : ℕ) = t.val % 8 * 1040 + y 0 + 1 → (i 1 : ℕ) = t.val / 8 * 256 + y 1 →
      L6 y = val_main_v17 (F := Ideal) (m ((c : Thread nD τ).loc main_arg0)) (m ((c : Thread nD τ).loc main_arg1)) i)
    (h7 : ∀ i : Cert.InOddRefIdeal.S8323x4096.Idx, (i 0 : ℕ) = t.val % 8 * 1040 + y 0 + 2 → (i 1 : ℕ) = t.val / 8 * 256 + y 1 →
      L7 y = val_main_v17 (F := Ideal) (m ((c : Thread nD τ).loc main_arg0)) (m ((c : Thread nD τ).loc main_arg1)) i) :
    k0_pay1 (F := Ideal) (k0_pay7 (iblk m c 0 t) (k0_pay4 (F := Ideal) (iblk m c 2 t))) (k0_pay9 (iblk m c 4 t))
      (k0_pay10 L5 (View.ld (iblk m c 3 t) (Rect.unit ![0, 0] ![1, 256] inb_S4x256_S1x256_0_0)))
      L6 (View.ld (iblk m c 3 t) (Rect.unit ![1, 0] ![1, 256] inb_S4x256_S1x256_1_0))
      L7 (View.ld (iblk m c 3 t) (Rect.unit ![2, 0] ![1, 256] inb_S4x256_S1x256_2_0))
      (View.ld (iblk m c 3 t) (Rect.unit ![3, 0] ![1, 256] inb_S4x256_S1x256_3_0)) y
      = val_main_v47 (F := Ideal) (m ((c : Thread nD τ).loc main_arg0)) (m ((c : Thread nD τ).loc main_arg1))
      (m ((c : Thread nD τ).loc main_arg2)) (m ((c : Thread nD τ).loc main_arg3)) j := by
  have e0 := fun i a b => stream m c t y i a b
  pointwise [k0_pay1, k0_pay9, k0_pay10, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47]
  have e4 : (iblk m c 4 t (ix2 0 (y 1)) : EReal) = m ((c : Thread nD τ).loc main_arg3) (ix1 (j 1)) := by
    blk_point [iblk, V, idx_val t]
  have e30 : (iblk m c 3 t (ix2 0 (y 1)) : EReal) = m ((c : Thread nD τ).loc main_arg2) (ix2 0 (j 1)) := by
    blk_point [iblk, V, idx_val t]
  have e31 : (iblk m c 3 t (ix2 1 (y 1)) : EReal) = m ((c : Thread nD τ).loc main_arg2) (ix2 1 (j 1)) := by
    blk_point [iblk, V, idx_val t]
  have e32 : (iblk m c 3 t (ix2 2 (y 1)) : EReal) = m ((c : Thread nD τ).loc main_arg2) (ix2 2 (j 1)) := by
    blk_point [iblk, V, idx_val t]
  have e33 : (iblk m c 3 t (ix2 3 (y 1)) : EReal) = m ((c : Thread nD τ).loc main_arg2) (ix2 3 (j 1)) := by
    blk_point [iblk, V, idx_val t]
  have hj : (j 0 : ℕ) < 8320 := (j 0).isLt
  rw [e4, e30, e31, e32, e33, h5 (ix2 ⟨(j 0 : ℕ), by omega⟩ (j 1)) h0 h1,
    h6 (ix2 ⟨1 + (j 0 : ℕ), by omega⟩ (j 1)) (by show 1 + (j 0 : ℕ) = _; omega) h1,
    h7 (ix2 ⟨2 + (j 0 : ℕ), by omega⟩ (j 1)) (by show 2 + (j 0 : ℕ) = _; omega) h1,
    e0 (ix2 ⟨3 + (j 0 : ℕ), by omega⟩ (j 1)) (by show 3 + (j 0 : ℕ) = _; omega) h1]

/-- The weight blocks of a point that is not the first of its column are those of the point before. -/
theorem weights_prev (c : Dev nD) (t : Fin cfg0.N) (h : ¬ t.val % 8 = 0) (ht : t.val - 1 < cfg0.N) :
    iblk m c 1 ⟨t.val - 1, ht⟩ = iblk m c 1 t := by
  funext y
  blk_ext [iblk, V, idx_val t, idx_val ⟨t.val - 1, ht⟩]

/-- The same for the other half's weights. -/
theorem weights_prev' (c : Dev nD) (t : Fin cfg0.N) (h : ¬ t.val % 8 = 0) (ht : t.val - 1 < cfg0.N) :
    iblk m c 2 ⟨t.val - 1, ht⟩ = iblk m c 2 t := by
  funext y
  blk_ext [iblk, V, idx_val t, idx_val ⟨t.val - 1, ht⟩]

/-- After every point the first buffer holds the gate's weight block of that point's column. -/
theorem kept (c : Dev nD) : ∀ (n : ℕ) (h : n < cfg0.N), (outsAt0 m c n h).2.2.1 = k0_pay3 (F := Ideal) (iblk m c 1 ⟨n, h⟩)
  | n, h => by
    by_cases h0 : n % 8 = 0
    · rw [outsAt0_A m c ⟨n, h⟩ h0]; frame_out
    · rw [outsAt0_B m c ⟨n, h⟩ h0]
      have hn : n - 1 < n := by omega
      have ih := kept c (n - 1) (lt_trans hn h)
      frame_out
      rw [show (outsAt0 m c (n - 1) _).2.2.1 = _ from ih, weights_prev m c ⟨n, h⟩ h0]
      rfl

/-- After every point the second buffer holds the other half's weight block of that point's column. -/
theorem kept' (c : Dev nD) : ∀ (n : ℕ) (h : n < cfg0.N), (outsAt0 m c n h).2.2.2.1 = k0_pay4 (F := Ideal) (iblk m c 2 ⟨n, h⟩)
  | n, h => by
    by_cases h0 : n % 8 = 0
    · rw [outsAt0_A m c ⟨n, h⟩ h0]; frame_out
    · rw [outsAt0_B m c ⟨n, h⟩ h0]
      have hn : n - 1 < n := by omega
      have ih := kept' c (n - 1) (lt_trans hn h)
      frame_out
      rw [show (outsAt0 m c (n - 1) _).2.2.2.1 = _ from ih, weights_prev' m c ⟨n, h⟩ h0]
      rfl

/-- The stored tile is the convolution's input rows. -/
theorem tile (c : Dev nD) (t : Fin cfg0.N) (y : S1040x256.Idx) (j : Cert.InOddRefIdeal.S8323x4096.Idx)
    (h0 : (j 0 : ℕ) = t.val % 8 * 1040 + y 0 + 3) (h1 : (j 1 : ℕ) = t.val / 8 * 256 + y 1) :
    k0_pay8 (F := Ideal) (iblk m c 0 t) (k0_pay4 (F := Ideal) (iblk m c 2 t)) y
      = val_main_v17 (F := Ideal) (m ((c : Thread nD τ).loc main_arg0)) (m ((c : Thread nD τ).loc main_arg1)) j := by
  rw [← stream m c t y j h0 h1]
  pointwise [k0_pay8]

/-- The rows carried to the next tile are the last input rows. -/
theorem carry (c : Dev nD) (t : Fin cfg0.N) (z : S1048x256.Idx) (hz : (z 0 : ℕ) < 8) (j : Cert.InOddRefIdeal.S8323x4096.Idx)
    (h0 : (j 0 : ℕ) = t.val % 8 * 1040 + 1035 + z 0) (h1 : (j 1 : ℕ) = t.val / 8 * 256 + z 1) :
    (outsAt0 m c t.val t.isLt).2.2.2.2 z
      = val_main_v17 (F := Ideal) (m ((c : Thread nD τ).loc main_arg0)) (m ((c : Thread nD τ).loc main_arg1)) j := by
  by_cases h : t.val % 8 = 0
  · rw [outsAt0_A m c t h]
    frame_out
    refine ConvBuf.canon_carry _ _ _ z hz _ fun x hx0 hx1 => ?_
    pointwise [k0_pay2]
    refine ConvBuf.readCov_last _ _ _ _ _ x _ fun x' hx0' hx1' => ?_
    exact tile m c t x' j (by omega) (by omega)
  · rw [outsAt0_B m c t h]
    frame_out
    rw [kept' m c (t.val - 1) _, weights_prev' m c t h]
    refine ConvBuf.canon_carry _ _ _ z hz _ fun x hx0 hx1 => ?_
    pointwise [k0_pay2]
    refine ConvBuf.readCov_last _ _ _ _ _ x _ fun x' hx0' hx1' => ?_
    rw [read_unread_whole]
    exact tile m c t x' j (by omega) (by omega)

/-- Before the stream starts the reference reads its padding, 0. -/
theorem pad_zero (X : FVec Ideal S8320x4096 .bf16) (Wt : FVec Ideal S4096x8192 .f32) (j : Cert.InOddRefIdeal.S8323x4096.Idx)
    (h : (j 0 : ℕ) < 3) : val_main_v17 (F := Ideal) X Wt j = 0 := by
  pointwise [val_main_v17, val_main_call0_v0, val_main_c]
  rw [dif_neg (by omega)]
  show (((0#32 : BitVec 32).toInt : ℝ) : EReal) = 0
  simp

/-- The carried rows a column starts with are 0. -/
theorem zero_rows (x : S8x256.Idx) : k0_pay5 (F := Ideal) x = 0 := by
  pointwise [k0_pay5]

/-- The convolution block a point leaves is the reference where that block lies. -/
theorem outs (c : Dev nD) (t : Fin cfg0.N) (y : S1040x256.Idx) (j : S8320x4096.Idx)
    (h0 : (j 0 : ℕ) = t.val % 8 * 1040 + y 0) (h1 : (j 1 : ℕ) = t.val / 8 * 256 + y 1) : (outsAt0 m c t.val t.isLt).2.1 y
      = val_main_v47 (F := Ideal) (m ((c : Thread nD τ).loc main_arg0)) (m ((c : Thread nD τ).loc main_arg1))
      (m ((c : Thread nD τ).loc main_arg2)) (m ((c : Thread nD τ).loc main_arg3)) j := by
  by_cases h : t.val % 8 = 0
  · rw [outsAt0_A m c t h]
    frame_out
    refine point m c t y j h0 h1 _ _ _ (fun i hi0 hi1 => ?_) (fun i hi0 hi1 => ?_) (fun i hi0 hi1 => ?_)
    · refine ConvBuf.readCov_shift _ 5 _ _ _ _ y _ (fun x hx0 hx1 => tile m c t x i (by omega) (by omega)) (fun z hz0 hz8 hz1 => ?_)
      rw [pad_zero _ _ _ (by omega)]
      exact ConvBuf.read_fill _ _ _ _ _ z hz8 _ zero_rows
    · refine ConvBuf.readCov_shift _ 6 _ _ _ _ y _ (fun x hx0 hx1 => tile m c t x i (by omega) (by omega)) (fun z hz0 hz8 hz1 => ?_)
      rw [pad_zero _ _ _ (by omega)]
      exact ConvBuf.read_fill _ _ _ _ _ z hz8 _ zero_rows
    · refine ConvBuf.readCov_shift _ 7 _ _ _ _ y _ (fun x hx0 hx1 => tile m c t x i (by omega) (by omega)) (fun z hz0 hz8 hz1 => ?_)
      rw [pad_zero _ _ _ (by omega)]
      exact ConvBuf.read_fill _ _ _ _ _ z hz8 _ zero_rows
  · rw [outsAt0_B m c t h]
    frame_out
    simp only [read_unread_whole, kept' m c (t.val - 1), weights_prev' m c t h]
    have ht : t.val - 1 < cfg0.N := lt_of_le_of_lt (Nat.sub_le _ _) t.isLt
    have hc : ∀ (z : S1048x256.Idx) (i : Cert.InOddRefIdeal.S8323x4096.Idx), (z 0 : ℕ) < 8 →
        (i 0 : ℕ) = (t.val - 1) % 8 * 1040 + 1035 + z 0 → (i 1 : ℕ) = (t.val - 1) / 8 * 256 + z 1 →
        (outsAt0 m c (t.val - 1) ht).2.2.2.2 z
          = val_main_v17 (F := Ideal) (m ((c : Thread nD τ).loc main_arg0)) (m ((c : Thread nD τ).loc main_arg1)) i :=
      fun z i hz a b => carry m c ⟨t.val - 1, ht⟩ z hz i a b
    refine point m c t y j h0 h1 _ _ _ (fun i hi0 hi1 => ?_) (fun i hi0 hi1 => ?_) (fun i hi0 hi1 => ?_)
    · refine ConvBuf.read_shift _ _ 5 _ _ _ _ y _ (fun x hx0 hx1 => tile m c t x i (by omega) (by omega)) (fun z hz0 hz8 hz1 => ?_)
      rw [View.writes_nil, read_unread_whole]
      exact hc z i hz8 (by omega) (by omega)
    · refine ConvBuf.read_shift _ _ 6 _ _ _ _ y _ (fun x hx0 hx1 => tile m c t x i (by omega) (by omega)) (fun z hz0 hz8 hz1 => ?_)
      rw [View.writes_nil, read_unread_whole]
      exact hc z i hz8 (by omega) (by omega)
    · refine ConvBuf.read_shift _ _ 7 _ _ _ _ y _ (fun x hx0 hx1 => tile m c t x i (by omega) (by omega)) (fun z hz0 hz8 hz1 => ?_)
      rw [View.writes_nil, read_unread_whole]
      exact hc z i hz8 (by omega) (by omega)

/-- The gate block a point leaves is the reference where that block lies. -/
theorem outs_gate (c : Dev nD) (t : Fin cfg0.N) (y : S1040x256.Idx) (j : S8320x4096.Idx)
    (h0 : (j 0 : ℕ) = t.val % 8 * 1040 + y 0) (h1 : (j 1 : ℕ) = t.val / 8 * 256 + y 1) : (outsAt0 m c t.val t.isLt).1 y
      = val_main_v16 (F := Ideal) (m ((c : Thread nD τ).loc main_arg0)) (m ((c : Thread nD τ).loc main_arg1)) j := by
  by_cases h : t.val % 8 = 0
  · rw [outsAt0_A m c t h]
    frame_out
    exact gate m c t y j h0 h1
  · rw [outsAt0_B m c t h]
    frame_out
    simp only [read_unread_whole, kept m c (t.val - 1), weights_prev m c t h]
    exact gate m c t y j h0 h1

/-- The gate's array after the run is the reference's. -/
theorem final (c : Dev nD) : (dats m 0 c).arrAt 5 cfg0.N = val_main_v16 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  refine outs_gate m c t y _ ?_ ?_
  all_goals (blk_simp [idx_val t] <;> try omega)

/-- The convolution's array after the run is the reference's. -/
theorem final_conv (c : Dev nD) : (dats m 0 c).arrAt 6 cfg0.N
    = val_main_v47 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t _ y => ?_
  blk_simp
  rw [after0_6]
  refine outs m c t y _ ?_ ?_
  all_goals (blk_simp [idx_val t] <;> try omega)

end Cert.InOddIdeal.Proj

end
-- ==== Proof.InOddClaims.lean ====
module

public import proofs.«01_k».proof.Defs
public import proofs.«01_k».proof.Proof.Gen.InOdd.Frame
public import proofs.«01_k».proof.Proof.Gen.InOddIdeal.Frame
public import proofs.«01_k».proof.Proof.InOddValue
public import Idealize.ShloMosaic.Lib.Claim
public import Idealize.ShloMosaic.Lib.Quiescent

/-! The claims about the odd layer's first call. -/

@[expose] public section

set_option maxRecDepth 16384

noncomputable section

open Idealize.ShloMosaic Idealize.SL.Sem

namespace Cert.Proof.InOdd

/-- The kernel as printed runs and leaves its arguments. -/
theorem frame : Cert.quiescent_InOdd := fun m ρ _ => Cert.InOdd.Gen.frame m ρ

/-- The idealized kernel runs and leaves its arguments. -/
theorem frame_ideal : Cert.quiescent_InOddIdeal := fun m ρ _ => Cert.InOddIdeal.Gen.frame m ρ

/-- The reference runs and leaves its arguments. -/
theorem frame_ref : Cert.quiescent_InOddRefIdeal := fun m ρ _ =>
  (θ_run _ _ _).mono (fun r h => ⟨fun c => (h c).2.2, sem_eq_zero_of_no_sems (by decide) _⟩) (Cert.InOddRefIdeal.Value.run m ρ)

set_option maxHeartbeats 1600000 in
/-- The idealized kernel's results are the reference's. -/
theorem algebraic : Cert.algebraic_InOddIdeal_InOddRefIdeal := by
  pair_intro
  · run_from Cert.InOddIdeal.Gen.run_main m g
  · run_from Cert.InOddRefIdeal.Value.run m' g'
    · exact (Cert.InOddIdeal.Proj.final m c).symm
    · exact (Cert.InOddIdeal.Proj.final_conv m c).symm

end Cert.Proof.InOdd

end
-- ==== Proof.FinalValue.lean ====
module

public import proofs.«01_k».proof.Proof.Gen.FinalIdeal.Value
public import proofs.«01_k».proof.Proof.Gen.FinalRefIdeal.Read
public import proofs.«01_k».proof.Proof.Gen.FinalRefIdeal.Run
public import Idealize.ShloMosaic.Lib.Pipeline.ValueKit

/-! The last call: every block of the result is the residual plus the normalized rows, as the reference states them. -/

@[expose] public section

set_option maxRecDepth 16384

noncomputable section

open Idealize.ShloMosaic Idealize.ShloMosaic.TcCoe Idealize.SL.Sem
open Idealize.ShloMosaic.Pipeline (Dat)

namespace Cert.FinalIdeal.Norm

open Cert.FinalIdeal Cert.FinalIdeal.Gen

variable (m : (ℓ : Loc nD τ sig) → Buf (Elt Ideal) ℓ)

/-- The residual plus the normalized rows, as the reference states it. -/
abbrev REF (X Y : FVec Ideal S8320x4096 .f32) (S : FVec Ideal S4096 .f32) : FVec Ideal S8192x4096 .f32 :=
  Cert.FinalRefIdeal.Read.val_main_v14 (F := Ideal) X Y S

/-- The block of each array a point works on. -/
theorem idx_val : ∀ t : Fin cfg0.N, win0_0.index t = ![t.val + 1, 0] ∧ win0_1.index t = ![t.val + 1, 0]
    ∧ win0_2.index t = ![0, 0] ∧ win0_3.index t = ![t.val, 0] ∧ t.val < 64 :=
  (by decide +kernel : ∀ t : Fin grid0.N, _)

open Cert.FinalRefIdeal.Read in
/-- What a point stores at `y` of its block is the reference where that block lies. -/
theorem point (c : Dev nD) (t : Fin cfg0.N) (y) :
    k0_pay1 (F := Ideal) (iblk m c 0 t) (iblk m c 1 t) (iblk m c 2 t) y
    = REF (m ((c : Thread nD τ).loc main_arg0)) (m ((c : Thread nD τ).loc main_arg1))
      (m ((c : Thread nD τ).loc main_arg2)) (((cfg0.win 3).blk t).view.emb y) := by
  pointwise [k0_pay1, REF, val_main_v0, val_main_cst, val_main_v1, val_main_v2, val_main_cst_0, val_main_v3, val_main_v4,
    val_main_cst_1, val_main_v5, val_main_v6, val_main_v7, val_main_v8, val_main_v9, val_main_v10, val_main_v11, val_main_v12,
    val_main_v13, val_main_v14]
  blk_point [iblk, V, idx_val t]

/-- The result array after the run is the reference. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FinalIdeal.Norm

end
-- ==== Proof.FinalClaims.lean ====
module

public import proofs.«01_k».proof.Defs
public import proofs.«01_k».proof.Proof.Gen.Final.Frame
public import proofs.«01_k».proof.Proof.Gen.FinalIdeal.Frame
public import proofs.«01_k».proof.Proof.FinalValue
public import Idealize.ShloMosaic.Lib.Claim
public import Idealize.ShloMosaic.Lib.Quiescent

/-! The claims about the last call: residual and normalisation. -/

@[expose] public section

set_option maxRecDepth 16384

noncomputable section

open Idealize.ShloMosaic Idealize.SL.Sem

namespace Cert.Proof.Final

/-- The kernel as printed runs and leaves its arguments. -/
theorem frame : Cert.quiescent_Final := fun m ρ _ => Cert.Final.Gen.frame m ρ

/-- The idealized kernel runs and leaves its arguments. -/
theorem frame_ideal : Cert.quiescent_FinalIdeal := fun m ρ _ => Cert.FinalIdeal.Gen.frame m ρ

/-- The reference runs and leaves its arguments. -/
theorem frame_ref : Cert.quiescent_FinalRefIdeal := fun m ρ _ =>
  (θ_run _ _ _).mono (fun r h => ⟨fun c => (h c).2, sem_eq_zero_of_no_sems (by decide) _⟩) (Cert.FinalRefIdeal.Value.run m ρ)

set_option maxHeartbeats 1600000 in
/-- The idealized kernel's results are the reference's. -/
theorem algebraic : Cert.algebraic_FinalIdeal_FinalRefIdeal := by
  pair_intro
  · run_from Cert.FinalIdeal.Gen.run_main m g
  · run_from Cert.FinalRefIdeal.Value.run m' g'
    exact (Cert.FinalIdeal.Norm.final m c).symm

end Cert.Proof.Final

end
-- ==== Proof.lean ====
module

public import proofs.«01_k».proof.Defs
public import proofs.«01_k».proof.Proof.SwaClaims
public import proofs.«01_k».proof.Proof.SwaValueClaim
public import proofs.«01_k».proof.Proof.FfnUpClaims
public import proofs.«01_k».proof.Proof.FfnDownClaims
public import proofs.«01_k».proof.Proof.InEvenClaims
public import proofs.«01_k».proof.Proof.OutClaims
public import proofs.«01_k».proof.Proof.InOddClaims
public import proofs.«01_k».proof.Proof.FinalClaims
public import proofs.«01_k».proof.Proof.Gen.Swa
public import proofs.«01_k».proof.Proof.Gen.SwaIdeal
public import proofs.«01_k».proof.Proof.Gen.SwaRefIdeal
public import proofs.«01_k».proof.Proof.Gen.FfnUp
public import proofs.«01_k».proof.Proof.Gen.FfnUpIdeal
public import proofs.«01_k».proof.Proof.Gen.FfnUpRefIdeal
public import proofs.«01_k».proof.Proof.Gen.FfnDown
public import proofs.«01_k».proof.Proof.Gen.FfnDownIdeal
public import proofs.«01_k».proof.Proof.Gen.FfnDownRefIdeal
public import proofs.«01_k».proof.Proof.Gen.InEven
public import proofs.«01_k».proof.Proof.Gen.InEvenIdeal
public import proofs.«01_k».proof.Proof.Gen.InEvenRefIdeal
public import proofs.«01_k».proof.Proof.Gen.Out
public import proofs.«01_k».proof.Proof.Gen.OutIdeal
public import proofs.«01_k».proof.Proof.Gen.OutRefIdeal
public import proofs.«01_k».proof.Proof.Gen.InOdd
public import proofs.«01_k».proof.Proof.Gen.InOddIdeal
public import proofs.«01_k».proof.Proof.Gen.InOddRefIdeal
public import proofs.«01_k».proof.Proof.Gen.Final
public import proofs.«01_k».proof.Proof.Gen.FinalIdeal
public import proofs.«01_k».proof.Proof.Gen.FinalRefIdeal
public import proofs.«01_k».proof.Proof.Gen.Pre_qk_finite
public import Idealize.ShloMosaic.Adequacy
public import Idealize.ShloMosaic.Init

/-! Everything claimed, each claim by its proof. -/

@[expose] public section

noncomputable section

namespace Cert.Proof

open Idealize.ShloMosaic Idealize.SL.Sem

/-- The claim: every program's facts, then every claim in its order. -/
theorem claim : Cert.Claim := ⟨Cert.Swa.Gen.facts,
  Cert.SwaIdeal.Gen.facts,
  Cert.SwaRefIdeal.Gen.facts,
  Cert.FfnUp.Gen.facts,
  Cert.FfnUpIdeal.Gen.facts,
  Cert.FfnUpRefIdeal.Gen.facts,
  Cert.FfnDown.Gen.facts,
  Cert.FfnDownIdeal.Gen.facts,
  Cert.FfnDownRefIdeal.Gen.facts,
  Cert.InEven.Gen.facts,
  Cert.InEvenIdeal.Gen.facts,
  Cert.InEvenRefIdeal.Gen.facts,
  Cert.Out.Gen.facts,
  Cert.OutIdeal.Gen.facts,
  Cert.OutRefIdeal.Gen.facts,
  Cert.InOdd.Gen.facts,
  Cert.InOddIdeal.Gen.facts,
  Cert.InOddRefIdeal.Gen.facts,
  Cert.Final.Gen.facts,
  Cert.FinalIdeal.Gen.facts,
  Cert.FinalRefIdeal.Gen.facts,
  Cert.Pre_qk_finite.Gen.facts,
  Swa.frame,
  Swa.frame_ideal,
  (fun m ρ _ => Cert.SwaIdeal.Gen.frame m ρ),
  Swa.frame_ref,
  Swa.frame_ref_pre,
  FfnUp.frame,
  FfnUp.frame_ideal,
  FfnUp.frame_ref,
  FfnDown.frame,
  FfnDown.frame_ideal,
  FfnDown.frame_ref,
  InEven.frame,
  InEven.frame_ideal,
  InEven.frame_ref,
  Out.frame,
  Out.frame_ideal,
  Out.frame_ref,
  InOdd.frame,
  InOdd.frame_ideal,
  InOdd.frame_ref,
  Final.frame,
  Final.frame_ideal,
  Final.frame_ref,
  Swa.preserves,
  Swa.algebraic,
  trivial,
  FfnUp.algebraic,
  trivial,
  FfnDown.algebraic,
  trivial,
  InEven.algebraic,
  trivial,
  Out.algebraic,
  trivial,
  InOdd.algebraic,
  trivial,
  Final.algebraic⟩

end Cert.Proof

end
